-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gating_KernelIdeal [hPre_finite_gating_KernelIdeal : Cert.Pre_finite_gating_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gating_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_gating_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gating_ReferenceIdeal [hPre_finite_gating_ReferenceIdeal : Cert.Pre_finite_gating_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gating_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_gating_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_gating_KernelIdeal [hKernelIdeal : Cert.KernelIdeal.Facts] [hPre_finite_gating_KernelIdeal : Cert.Pre_finite_gating_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gating_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_gating_ReferenceIdeal [hReferenceIdeal : Cert.ReferenceIdeal.Facts] [hPre_finite_gating_ReferenceIdeal : Cert.Pre_finite_gating_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gating_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_gating_KernelIdeal [hKernelIdeal : Cert.KernelIdeal.Facts] [hReferenceIdeal : Cert.ReferenceIdeal.Facts] [hPre_finite_gating_KernelIdeal : Cert.Pre_finite_gating_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gating_KernelIdeal m →
    (∀ c : Dev Cert.KernelIdeal.nD,
      m ((c.tc : Thread Cert.KernelIdeal.nD Cert.KernelIdeal.τ).loc Cert.KernelIdeal.main_arg0) = Layout.blockN ⟨2, ![256, 512]⟩ ⟨2, ![512, 512]⟩ (Layout.meshBlock [2, 2, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2]⟩ ⟨2, ![512, 4]⟩ (Layout.meshBlock [2, 2, 4] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![4, 512, 1024]⟩ (Layout.meshBlock [2, 2, 4] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![4, 1024, 512]⟩ (Layout.meshBlock [2, 2, 4] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v138)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 512]⟩ ⟨2, ![512, 512]⟩ (Layout.meshBlock [2, 2, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v138) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_gating_KernelIdeal : Cert.Pre_finite_gating_KernelIdeal.Facts) (hPre_finite_gating_ReferenceIdeal : Cert.Pre_finite_gating_ReferenceIdeal.Facts),
    quiescent_Kernel (hKernel := hKernel)
    ∧ quiescent_KernelIdeal (hKernelIdeal := hKernelIdeal)
    ∧ quiescent_KernelIdeal_pre_finite_gating_KernelIdeal (hKernelIdeal := hKernelIdeal) (hPre_finite_gating_KernelIdeal := hPre_finite_gating_KernelIdeal)
    ∧ quiescent_ReferenceIdeal (hReferenceIdeal := hReferenceIdeal)
    ∧ quiescent_ReferenceIdeal_pre_finite_gating_ReferenceIdeal (hReferenceIdeal := hReferenceIdeal) (hPre_finite_gating_ReferenceIdeal := hPre_finite_gating_ReferenceIdeal)
    ∧ preserves_Kernel_KernelIdeal
    ∧ algebraic_KernelIdeal_ReferenceIdeal_pre_finite_gating_KernelIdeal (hKernelIdeal := hKernelIdeal) (hReferenceIdeal := hReferenceIdeal) (hPre_finite_gating_KernelIdeal := hPre_finite_gating_KernelIdeal)
-- ==== Pre_finite_gating_KernelIdeal.lean ====
abbrev S256x512 : Shape := ⟨2, ![256, 512]⟩
abbrev S512x2 : Shape := ⟨2, ![512, 2]⟩
abbrev S2x512x1024 : Shape := ⟨3, ![2, 512, 1024]⟩
abbrev S2x1024x512 : Shape := ⟨3, ![2, 1024, 512]⟩
abbrev S_ : Shape := ⟨0, ![]⟩

class Facts : Prop where
  bcast_S_S256x512 : S_.BroadcastsInDim S256x512 (![] : Fin 0 → Fin S256x512.rank)
  bcast_S_S512x2 : S_.BroadcastsInDim S512x2 (![] : Fin 0 → Fin S512x2.rank)

variable [Facts]

def fn {F : FTy → Type} [FloatOps F] (main_arg0 : FVec F S256x512 .f32) (main_arg1 : FVec F S512x2 .f32) (main_arg2 : FVec F S2x512x1024 .f32) (main_arg3 : FVec F S2x1024x512 .f32) : IVec S256x512 1 × IVec S512x2 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_v3 : FVec F S512x2 .f32 := Host.absf main_arg1
  let main_cst_0 : FVec F S_ .f32 := constant S_ .f32 0x7F800000#32
  let main_v4 : FVec F S512x2 .f32 := broadcastInDim S512x2 ![] bcast_S_S512x2 main_cst_0
  let main_v5 : IVec S512x2 1 := cmpf .olt main_v3 main_v4
  (main_v2, main_v5)
-- ==== Pre_finite_gating_ReferenceIdeal.lean ====
abbrev S512x512 : Shape := ⟨2, ![512, 512]⟩
abbrev S512x4 : Shape := ⟨2, ![512, 4]⟩
abbrev S4x512x1024 : Shape := ⟨3, ![4, 512, 1024]⟩
abbrev S4x1024x512 : Shape := ⟨3, ![4, 1024, 512]⟩
abbrev S_ : Shape := ⟨0, ![]⟩

class Facts : Prop where
  bcast_S_S512x512 : S_.BroadcastsInDim S512x512 (![] : Fin 0 → Fin S512x512.rank)
  bcast_S_S512x4 : S_.BroadcastsInDim S512x4 (![] : Fin 0 → Fin S512x4.rank)

variable [Facts]

def fn {F : FTy → Type} [FloatOps F] (main_arg0 : FVec F S512x512 .f32) (main_arg1 : FVec F S512x4 .f32) (main_arg2 : FVec F S4x512x1024 .f32) (main_arg3 : FVec F S4x1024x512 .f32) : IVec S512x512 1 × IVec S512x4 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_v3 : FVec F S512x4 .f32 := Host.absf main_arg1
  let main_cst_0 : FVec F S_ .f32 := constant S_ .f32 0x7F800000#32
  let main_v4 : FVec F S512x4 .f32 := broadcastInDim S512x4 ![] bcast_S_S512x4 main_cst_0
  let main_v5 : IVec S512x4 1 := cmpf .olt main_v3 main_v4
  (main_v2, main_v5)
-- ==== Kernel.lean ====
abbrev S256x512 : Shape := ⟨2, ![256, 512]⟩
abbrev S512x2 : Shape := ⟨2, ![512, 2]⟩
abbrev S2x512x1024 : Shape := ⟨3, ![2, 512, 1024]⟩
abbrev S2x1024x512 : Shape := ⟨3, ![2, 1024, 512]⟩
abbrev S256x4 : Shape := ⟨2, ![256, 4]⟩
abbrev S2 : Shape := ⟨1, ![2]⟩
abbrev S4 : Shape := ⟨1, ![4]⟩
abbrev S1 : Shape := ⟨1, ![1]⟩
abbrev S_ : Shape := ⟨0, ![]⟩
abbrev S512x4 : Shape := ⟨2, ![512, 4]⟩
abbrev S256x1 : Shape := ⟨2, ![256, 1]⟩
abbrev S1x512x1024 : Shape := ⟨3, ![1, 512, 1024]⟩
abbrev S512x1024 : Shape := ⟨2, ![512, 1024]⟩
abbrev S256x1024 : Shape := ⟨2, ![256, 1024]⟩
abbrev S1x1024x512 : Shape := ⟨3, ![1, 1024, 512]⟩
abbrev S1024x512 : Shape := ⟨2, ![1024, 512]⟩

abbrev nBuf : Space → Nat
  | .hbm => 5
  | .vmem => 14
  | .smem => 0
  | _ => 0

abbrev bufTy : (tb : Table) → Fin (tcTables nBuf tb) → BufTy
  | .hbm, ⟨0, _⟩ => ⟨S256x512, .f32⟩
  | .hbm, ⟨1, _⟩ => ⟨S512x2, .f32⟩
  | .hbm, ⟨2, _⟩ => ⟨S2x512x1024, .f32⟩
  | .hbm, ⟨3, _⟩ => ⟨S2x1024x512, .f32⟩
  | .hbm, ⟨4, _⟩ => ⟨S256x512, .f32⟩
  | .local _ .vmem, ⟨0, _⟩ => ⟨S256x512, .f32⟩
  | .local _ .vmem, ⟨1, _⟩ => ⟨S512x2, .f32⟩
  | .local _ .vmem, ⟨2, _⟩ => ⟨S256x512, .f32⟩
  | .local _ .vmem, ⟨3, _⟩ => ⟨S256x512, .bf16⟩
  | .local _ .vmem, ⟨4, _⟩ => ⟨S256x512, .bf16⟩
  | .local _ .vmem, ⟨5, _⟩ => ⟨S512x2, .f32⟩
  | .local _ .vmem, ⟨6, _⟩ => ⟨S256x4, .f32⟩
  | .local _ .vmem, ⟨7, _⟩ => ⟨S256x4, .f32⟩
  | .local _ .vmem, ⟨8, _⟩ => ⟨S2x512x1024, .f32⟩
  | .local _ .vmem, ⟨9, _⟩ => ⟨S2x1024x512, .f32⟩
  | .local _ .vmem, ⟨10, _⟩ => ⟨S2x512x1024, .bf16⟩
  | .local _ .vmem, ⟨11, _⟩ => ⟨S2x1024x512, .bf16⟩
  | .local _ .vmem, ⟨12, _⟩ => ⟨S256x512, .bf16⟩
  | .local _ .vmem, ⟨13, _⟩ => ⟨S256x512, .bf16⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_7 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_6 : BitVec 32 := 8#32
  let v16 : BitVec 32 := Scalar.muli v2 c8_i32_6
  let v17 : BitVec 32 := Scalar.addi c0_i32_7 v16
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_8 : BitVec 32 := 4#32
  let v18 : BitVec 32 := Scalar.muli v9 c4_i32_8
  let v19 : BitVec 32 := Scalar.addi v17 v18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v20 : BitVec 32 := Scalar.muli v8 c1_i32_9
  let v21 : BitVec 32 := Scalar.addi v19 v20
  v21.toNat
def k0_dev2 (d0 : Dev nD) : Nat :=
  let c0_i32_14 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_13 : BitVec 32 := 8#32
  let v22 : BitVec 32 := Scalar.muli v2 c8_i32_13
  let v23 : BitVec 32 := Scalar.addi c0_i32_14 v22
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_15 : BitVec 32 := 4#32
  let v24 : BitVec 32 := Scalar.muli v9 c4_i32_15
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v26 : BitVec 32 := Scalar.muli v8 c1_i32_16
  let v27 : BitVec 32 := Scalar.addi v25 v26
  v27.toNat
def k0_dev3 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v38 : BitVec 32 := Scalar.muli v2 c8_i32_22
  let v39 : BitVec 32 := Scalar.addi c0_i32_23 v38
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_24 : BitVec 32 := 4#32
  let v40 : BitVec 32 := Scalar.muli v9 c4_i32_24
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v42 : BitVec 32 := Scalar.muli v8 c1_i32_25
  let v43 : BitVec 32 := Scalar.addi v41 v42
  v43.toNat
def k0_dev4 (d0 : Dev nD) : Nat :=
  let c0_i32_91 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_90 : BitVec 32 := 8#32
  let v215 : BitVec 32 := Scalar.muli v2 c8_i32_90
  let v216 : BitVec 32 := Scalar.addi c0_i32_91 v215
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_92 : BitVec 32 := 4#32
  let v217 : BitVec 32 := Scalar.muli v9 c4_i32_92
  let v218 : BitVec 32 := Scalar.addi v216 v217
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v219 : BitVec 32 := Scalar.muli v8 c1_i32_93
  let v220 : BitVec 32 := Scalar.addi v218 v219
  v220.toNat
def k0_dev5 (d0 : Dev nD) : Nat :=
  let c0_i32_138 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_137 : BitVec 32 := 8#32
  let v282 : BitVec 32 := Scalar.muli v2 c8_i32_137
  let v283 : BitVec 32 := Scalar.addi c0_i32_138 v282
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_139 : BitVec 32 := 4#32
  let v284 : BitVec 32 := Scalar.muli v9 c4_i32_139
  let v285 : BitVec 32 := Scalar.addi v283 v284
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_140 : BitVec 32 := 1#32
  let v286 : BitVec 32 := Scalar.muli v8 c1_i32_140
  let v287 : BitVec 32 := Scalar.addi v285 v286
  v287.toNat
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x512 : Shape := ⟨2, ![512, 512]⟩
abbrev S512x4 : Shape := ⟨2, ![512, 4]⟩
abbrev S4x512x1024 : Shape := ⟨3, ![4, 512, 1024]⟩
abbrev S4x1024x512 : Shape := ⟨3, ![4, 1024, 512]⟩
abbrev S512x2 : Shape := ⟨2, ![512, 2]⟩
abbrev S_ : Shape := ⟨0, ![]⟩
abbrev S512 : Shape := ⟨1, ![512]⟩
abbrev S512x1 : Shape := ⟨2, ![512, 1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 196
  | .vmem => 0
  | .smem => 0
  | _ => 0

abbrev hbmTy0_0 (i : Nat) : BufTy := match i % 128 with
  | 0 => ⟨S512x512, .f32⟩
  | 1 => ⟨S512x4, .f32⟩
  | 2 => ⟨S4x512x1024, .f32⟩
  | 3 => ⟨S4x1024x512, .f32⟩
  | 4 => ⟨S512x4, .f32⟩
  | 5 => ⟨S512x2, .f32⟩
  | 6 => ⟨S512x2, .i32⟩
  | 7 => ⟨S_, .f32⟩
  | 8 => ⟨S512, .f32⟩
  | 9 => ⟨S512x1, .f32⟩
  | 10 => ⟨S512x2, .f32⟩
  | 11 => ⟨S512x2, .f32⟩
  | 12 => ⟨S512x2, .f32⟩
  | 13 => ⟨S_, .f32⟩
  | 14 => ⟨S512, .f32⟩
  | 15 => ⟨S512x1, .f32⟩
  | 16 => ⟨S512x2, .f32⟩
  | 17 => ⟨S512x2, .f32⟩
  | 18 => ⟨S_, .f32⟩
  | 19 => ⟨S512x512, .f32⟩
  | 20 => ⟨S512x1, .i32⟩
  | 21 => ⟨S_, .i32⟩
  | 22 => ⟨S512x1, .i32⟩
  | 23 => ⟨S512x1, .i1⟩
  | 24 => ⟨S1x512x1024, .f32⟩
  | 25 => ⟨S512x1024, .f32⟩
  | 26 => ⟨S512x1024, .f32⟩
  | 27 => ⟨S_, .f32⟩
  | 28 => ⟨S512x1024, .f32⟩
  | 29 => ⟨S512x1024, .f32⟩
  | 30 => ⟨S1x1024x512, .f32⟩
  | 31 => ⟨S1024x512, .f32⟩
  | 32 => ⟨S512x512, .f32⟩
  | 33 => ⟨S512x1, .f32⟩
  | 34 => ⟨S512x512, .f32⟩
  | 35 => ⟨S512x512, .f32⟩
  | 36 => ⟨S_, .f32⟩
  | 37 => ⟨S_, .f32⟩
  | 38 => ⟨S512x512, .i1⟩
  | 39 => ⟨S512x512, .f32⟩
  | 40 => ⟨S512x512, .f32⟩
  | 41 => ⟨S512x512, .f32⟩
  | 42 => ⟨S512x1, .i32⟩
  | 43 => ⟨S_, .i32⟩
  | 44 => ⟨S512x1, .i32⟩
  | 45 => ⟨S512x1, .i1⟩
  | 46 => ⟨S1x512x1024, .f32⟩
  | 47 => ⟨S512x1024, .f32⟩
  | 48 => ⟨S512x1024, .f32⟩
  | 49 => ⟨S_, .f32⟩
  | 50 => ⟨S512x1024, .f32⟩
  | 51 => ⟨S512x1024, .f32⟩
  | 52 => ⟨S1x1024x512, .f32⟩
  | 53 => ⟨S1024x512, .f32⟩
  | 54 => ⟨S512x512, .f32⟩
  | 55 => ⟨S512x1, .f32⟩
  | 56 => ⟨S512x512, .f32⟩
  | 57 => ⟨S512x512, .f32⟩
  | 58 => ⟨S_, .f32⟩
  | 59 => ⟨S_, .f32⟩
  | 60 => ⟨S512x512, .i1⟩
  | 61 => ⟨S512x512, .f32⟩
  | 62 => ⟨S512x512, .f32⟩
  | 63 => ⟨S512x512, .f32⟩
  | 64 => ⟨S512x1, .i32⟩
  | 65 => ⟨S_, .i32⟩
  | 66 => ⟨S512x1, .i32⟩
  | 67 => ⟨S512x1, .i1⟩
  | 68 => ⟨S1x512x1024, .f32⟩
  | 69 => ⟨S512x1024, .f32⟩
  | 70 => ⟨S512x1024, .f32⟩
  | 71 => ⟨S_, .f32⟩
  | 72 => ⟨S512x1024, .f32⟩
  | 73 => ⟨S512x1024, .f32⟩
  | 74 => ⟨S1x1024x512, .f32⟩
  | 75 => ⟨S1024x512, .f32⟩
  | 76 => ⟨S512x512, .f32⟩
  | 77 => ⟨S512x1, .f32⟩
  | 78 => ⟨S512x512, .f32⟩
  | 79 => ⟨S512x512, .f32⟩
  | 80 => ⟨S_, .f32⟩
  | 81 => ⟨S_, .f32⟩
  | 82 => ⟨S512x512, .i1⟩
  | 83 => ⟨S512x512, .f32⟩
  | 84 => ⟨S512x512, .f32⟩
  | 85 => ⟨S512x512, .f32⟩
  | 86 => ⟨S512x1, .i32⟩
  | 87 => ⟨S_, .i32⟩
  | 88 => ⟨S512x1, .i32⟩
  | 89 => ⟨S512x1, .i1⟩
  | 90 => ⟨S1x512x1024, .f32⟩
  | 91 => ⟨S512x1024, .f32⟩
  | 92 => ⟨S512x1024, .f32⟩
  | 93 => ⟨S_, .f32⟩
  | 94 => ⟨S512x1024, .f32⟩
  | 95 => ⟨S512x1024, .f32⟩
  | 96 => ⟨S1x1024x512, .f32⟩
  | 97 => ⟨S1024x512, .f32⟩
  | 98 => ⟨S512x512, .f32⟩
  | 99 => ⟨S512x1, .f32⟩
  | 100 => ⟨S512x512, .f32⟩
  | 101 => ⟨S512x512, .f32⟩
  | 102 => ⟨S_, .f32⟩
  | 103 => ⟨S_, .f32⟩
  | 104 => ⟨S512x512, .i1⟩
  | 105 => ⟨S512x512, .f32⟩
  | 106 => ⟨S512x512, .f32⟩
  | 107 => ⟨S512x512, .f32⟩
  | 108 => ⟨S512x1, .i32⟩
  | 109 => ⟨S_, .i32⟩
  | 110 => ⟨S512x1, .i32⟩
  | 111 => ⟨S512x1, .i1⟩
  | 112 => ⟨S1x512x1024, .f32⟩
  | 113 => ⟨S512x1024, .f32⟩
  | 114 => ⟨S512x1024, .f32⟩
  | 115 => ⟨S_, .f32⟩
  | 116 => ⟨S512x1024, .f32⟩
  | 117 => ⟨S512x1024, .f32⟩
  | 118 => ⟨S1x1024x512, .f32⟩
  | 119 => ⟨S1024x512, .f32⟩
  | 120 => ⟨S512x512, .f32⟩
  | 121 => ⟨S512x1, .f32⟩
  | 122 => ⟨S512x512, .f32⟩
  | 123 => ⟨S512x512, .f32⟩
  | 124 => ⟨S_, .f32⟩
  | 125 => ⟨S_, .f32⟩
  | 126 => ⟨S512x512, .i1⟩
  | 127 => ⟨S512x512, .f32⟩
  | _ => ⟨S512x512, .f32⟩

abbrev hbmTy0_1 (i : Nat) : BufTy := match i % 128 with
  | 0 => ⟨S512x512, .f32⟩
  | 1 => ⟨S512x512, .f32⟩
  | 2 => ⟨S512x1, .i32⟩
  | 3 => ⟨S_, .i32⟩
  | 4 => ⟨S512x1, .i32⟩
  | 5 => ⟨S512x1, .i1⟩
  | 6 => ⟨S1x512x1024, .f32⟩
  | 7 => ⟨S512x1024, .f32⟩
  | 8 => ⟨S512x1024, .f32⟩
  | 9 => ⟨S_, .f32⟩
  | 10 => ⟨S512x1024, .f32⟩
  | 11 => ⟨S512x1024, .f32⟩
  | 12 => ⟨S1x1024x512, .f32⟩
  | 13 => ⟨S1024x512, .f32⟩
  | 14 => ⟨S512x512, .f32⟩
  | 15 => ⟨S512x1, .f32⟩
  | 16 => ⟨S512x512, .f32⟩
  | 17 => ⟨S512x512, .f32⟩
  | 18 => ⟨S_, .f32⟩
  | 19 => ⟨S_, .f32⟩
  | 20 => ⟨S512x512, .i1⟩
  | 21 => ⟨S512x512, .f32⟩
  | 22 => ⟨S512x512, .f32⟩
  | 23 => ⟨S512x512, .f32⟩
  | 24 => ⟨S512x1, .i32⟩
  | 25 => ⟨S_, .i32⟩
  | 26 => ⟨S512x1, .i32⟩
  | 27 => ⟨S512x1, .i1⟩
  | 28 => ⟨S1x512x1024, .f32⟩
  | 29 => ⟨S512x1024, .f32⟩
  | 30 => ⟨S512x1024, .f32⟩
  | 31 => ⟨S_, .f32⟩
  | 32 => ⟨S512x1024, .f32⟩
  | 33 => ⟨S512x1024, .f32⟩
  | 34 => ⟨S1x1024x512, .f32⟩
  | 35 => ⟨S1024x512, .f32⟩
  | 36 => ⟨S512x512, .f32⟩
  | 37 => ⟨S512x1, .f32⟩
  | 38 => ⟨S512x512, .f32⟩
  | 39 => ⟨S512x512, .f32⟩
  | 40 => ⟨S_, .f32⟩
  | 41 => ⟨S_, .f32⟩
  | 42 => ⟨S512x512, .i1⟩
  | 43 => ⟨S512x512, .f32⟩
  | 44 => ⟨S512x512, .f32⟩
  | 45 => ⟨S512x512, .f32⟩
  | 46 => ⟨S512x1, .i32⟩
  | 47 => ⟨S_, .i32⟩
  | 48 => ⟨S512x1, .i32⟩
  | 49 => ⟨S512x1, .i1⟩
  | 50 => ⟨S1x512x1024, .f32⟩
  | 51 => ⟨S512x1024, .f32⟩
  | 52 => ⟨S512x1024, .f32⟩
  | 53 => ⟨S_, .f32⟩
  | 54 => ⟨S512x1024, .f32⟩
  | 55 => ⟨S512x1024, .f32⟩
  | 56 => ⟨S1x1024x512, .f32⟩
  | 57 => ⟨S1024x512, .f32⟩
  | 58 => ⟨S512x512, .f32⟩
  | 59 => ⟨S512x1, .f32⟩
  | 60 => ⟨S512x512, .f32⟩
  | 61 => ⟨S512x512, .f32⟩
  | 62 => ⟨S_, .f32⟩
  | 63 => ⟨S_, .f32⟩
  | 64 => ⟨S512x512, .i1⟩
  | 65 => ⟨S512x512, .f32⟩
  | 66 => ⟨S512x512, .f32⟩
  | 67 => ⟨S512x512, .f32⟩
  | _ => ⟨S512x512, .f32⟩

abbrev hbmTy (i : Nat) : BufTy := match i / 128 with
  | 0 => hbmTy0_0 i
  | 1 => hbmTy0_1 i
  | _ => ⟨S512x512, .f32⟩

abbrev bufTy : (tb : Table) → Fin (tcTables nBuf tb) → BufTy
  | .hbm, ⟨i, _⟩ => hbmTy i
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_9 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_11 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_12 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_13 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_14 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_15 : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_c_16 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_17 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_18 : Ref sig .tc := ⟨.hbm, 146, rfl⟩
abbrev main_call5_v0 : Ref sig .tc := ⟨.hbm, 147, rfl⟩
abbrev main_call5_v1 : Ref sig .tc := ⟨.hbm, 148, rfl⟩
abbrev main_call5_v2 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_c_19 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_20 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_21 : Ref sig .tc := ⟨.hbm, 168, rfl⟩
abbrev main_call6_v0 : Ref sig .tc := ⟨.hbm, 169, rfl⟩
abbrev main_call6_v1 : Ref sig .tc := ⟨.hbm, 170, rfl⟩
abbrev main_call6_v2 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_c_22 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_23 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_cst_24 : Ref sig .tc := ⟨.hbm, 190, rfl⟩
abbrev main_call7_v0 : Ref sig .tc := ⟨.hbm, 191, rfl⟩
abbrev main_call7_v1 : Ref sig .tc := ⟨.hbm, 192, rfl⟩
abbrev main_call7_v2 : Ref sig .tc := ⟨.hbm, 193, rfl⟩
abbrev main_v137 : Ref sig .tc := ⟨.hbm, 194, rfl⟩
abbrev main_v138 : Ref sig .tc := ⟨.hbm, 195, rfl⟩

abbrev nD : Nat := 1
abbrev τ : Topo := Topo.v7x

variable {F : FTy → Type} [FloatOps F]
-- ==== Proof.Proto.lean ====
/-
# The exchange between expert pairs: contents, cells and schedule

The kernel runs on the mesh `x = 2, y = 2, z = 4`. Device `c` works with one other device only, `peer c`, which
differs from it in the `y` coordinate. The two meet on the runtime's barrier semaphore and then send each other four
arrays: the router's columns, the tokens (in `bf16`), the gating weights and the partial results.

This module names what each buffer holds at each stage (for any float values `F`), the semaphore cells, and the
schedule of the rounds library: every cell has one round with one duty, and the payload of a duty is a buffer together
with its contents.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: a copy of the rounds library for the pipeline, one for the exchange, and the counters of
the local copies -/

/-- The ghost state: the rounds' record beside the launch's and the counters. -/
abbrev UU : Type := UR sig nD τ × (UR sig nD τ × Counters)

local notation "𝕄" => MT nD τ sig Unit (Elt F) ℕ UU ℕ

/-- The pipeline's part of the ghost state. -/
abbrev EP : Emb (UR sig nD τ) (MT nD τ sig Unit (Elt F) ℕ UU ℕ) := embL
/-- The exchange's part of the ghost state. -/
abbrev ER : Emb (UR sig nD τ) (MT nD τ sig Unit (Elt F) ℕ UU ℕ) :=
  (Emb.inl : Emb (UR sig nD τ) (UR sig nD τ × Counters)).trans embR

variable (m : (ℓ : Loc nD τ sig) → Buf (Elt F) ℓ)

/-! ## The peer -/

/-- The device with the other `y` coordinate. -/
def peer (c : Dev nD) : Dev nD :=
  ⟨(8 * (c.val / 8) + (c.val % 4) + 4) - 4 * ((c.val / 4) % 2), by revert c; decide⟩

/-- A device is its peer's peer. -/
theorem peer_peer (c : Dev nD) : peer (peer c) = c := by revert c; decide

/-- The pairing as a permutation of the devices. -/
def swap : Dev nD ≃ Dev nD := ⟨peer, peer, peer_peer, peer_peer⟩

/-- The barrier's signal goes to the peer. -/
theorem dev1_eq (c : Dev nD) : (⟨k0_dev1 c, k0_dev1_lt c⟩ : Dev nD) = peer c := Fin.ext (k0_dev1_eq c)
/-- The first remote copy goes to the peer. -/
theorem dev2_eq (c : Dev nD) : (⟨k0_dev2 c, k0_dev2_lt c⟩ : Dev nD) = peer c := Fin.ext (k0_dev2_eq c)
/-- The second remote copy goes to the peer. -/
theorem dev3_eq (c : Dev nD) : (⟨k0_dev3 c, k0_dev3_lt c⟩ : Dev nD) = peer c := Fin.ext (k0_dev3_eq c)
/-- The third remote copy goes to the peer. -/
theorem dev4_eq (c : Dev nD) : (⟨k0_dev4 c, k0_dev4_lt c⟩ : Dev nD) = peer c := Fin.ext (k0_dev4_eq c)
/-- The fourth remote copy goes to the peer. -/
theorem dev5_eq (c : Dev nD) : (⟨k0_dev5 c, k0_dev5_lt c⟩ : Dev nD) = peer c := Fin.ext (k0_dev5_eq c)

/-! ## Contents -/

/-- Device `c`'s tokens, as the pipeline stages them. -/
def xIn (c : Dev nD) : (cc0_stg0_0 : Ref sig .tc).ty.Contents (Elt F) :=
  (win0_0.blk (0 : Fin 1)).view.read (Elt F) (m ((c : Thread nD τ).loc main_arg0))
/-- Device `c`'s two router columns, as the pipeline stages them. -/
def rIn (c : Dev nD) : (cc0_stg1_0 : Ref sig .tc).ty.Contents (Elt F) :=
  (win0_1.blk (0 : Fin 1)).view.read (Elt F) (m ((c : Thread nD τ).loc main_arg1))
/-- The first weights of device `c`'s two experts. -/
def w1In (c : Dev nD) : (cc0_scratch5 : Ref sig .tc).ty.Contents (Elt F) := m ((c : Thread nD τ).loc main_arg2)
/-- The second weights of device `c`'s two experts. -/
def w2In (c : Dev nD) : (cc0_scratch6 : Ref sig .tc).ty.Contents (Elt F) := m ((c : Thread nD τ).loc main_arg3)

/-- The bit saying that device `c` sits at `y = 0`. -/
def atZero (c : Dev nD) : BitVec 1 :=
  Scalar.cmpi .eq (Scalar.remsi (Scalar.divsi (Dev.word c) 4#32) 2#32) 0#32

/-- The tokens as sent. -/
def xOut (c : Dev nD) : (cc0_scratch0 : Ref sig .tc).ty.Contents (Elt F) := k0_pay2 (xIn m c)
/-- The first weights as multiplied with. -/
def w1Out (c : Dev nD) : (cc0_scratch7 : Ref sig .tc).ty.Contents (Elt F) := k0_pay3 (w1In m c)
/-- The second weights as multiplied with. -/
def w2Out (c : Dev nD) : (cc0_scratch8 : Ref sig .tc).ty.Contents (Elt F) := k0_pay4 (w2In m c)

/-- The gating weights of the kernel's text as one function of the two router halves and the tokens. -/
def gating (b : BitVec 1) (rm rp : Vec F S512x2 .f32) (x : Vec F S256x512 .f32) : FVec F S256x4 .f32 :=
  let a0 := k0_pay6 b rm rp x
  let a1 := k0_pay7 b rm rp x
  let a2 := k0_pay8 b rm rp x
  let a3 := k0_pay9 b rm rp x
  let n0 := k0_pay10 b rm rp x
  let z := k0_pay11 (F := F)
  let i := k0_pay12 b rm rp x
  let n1 := k0_pay13 a1 a2 a3 z i
  let n2 := k0_pay14 a0 a1 a2 a3
  let n3 := k0_pay15 a0 a1 a2 a3
  let p := k0_pay16 a0 a1 a2 a3 n0 z i
  let q := k0_pay17 a0 a1 a2 a3
  k0_pay24 a2 a3 n2 n3 (k0_pay18 a3 n3 p q) (k0_pay19 a0 a1 a2 a3 n0 n1 n2 n3 p q) (k0_pay20 a0 a1 a2 a3 n0 n1 n2 n3 p q)
    (k0_pay21 n1) (k0_pay22 a0 a1 a2 a3 n0 n1 n2 n3 p q) (k0_pay23 (F := F))

/-- Device `c`'s gating weights for its own tokens. -/
def gOut (c : Dev nD) : (cc0_scratch3 : Ref sig .tc).ty.Contents (Elt F) :=
  gating (atZero c) (rIn m c) (rIn m (peer c)) (xIn m c)

/-- Expert 0 of device `c`: its first weights. -/
def w1At0 (c : Dev nD) : Vec F S1x512x1024 .bf16 :=
  (Memref.whole cc0_scratch7 : Memref sig .tc .vmem S2x512x1024 .bf16).view.readAt (Elt F)
    (Rect.unit (s := S2x512x1024) ![0, 0, 0] S1x512x1024.size inb_S2x512x1024_S1x512x1024_0_0_0).toLoadRect (w1Out m c)
/-- Expert 1 of device `c`: its first weights. -/
def w1At1 (c : Dev nD) : Vec F S1x512x1024 .bf16 :=
  (Memref.whole cc0_scratch7 : Memref sig .tc .vmem S2x512x1024 .bf16).view.readAt (Elt F)
    (Rect.unit (s := S2x512x1024) ![1, 0, 0] S1x512x1024.size inb_S2x512x1024_S1x512x1024_1_0_0).toLoadRect (w1Out m c)
/-- Expert 0 of device `c`: its second weights. -/
def w2At0 (c : Dev nD) : Vec F S1x1024x512 .bf16 :=
  (Memref.whole cc0_scratch8 : Memref sig .tc .vmem S2x1024x512 .bf16).view.readAt (Elt F)
    (Rect.unit (s := S2x1024x512) ![0, 0, 0] S1x1024x512.size inb_S2x1024x512_S1x1024x512_0_0_0).toLoadRect (w2Out m c)
/-- Expert 1 of device `c`: its second weights. -/
def w2At1 (c : Dev nD) : Vec F S1x1024x512 .bf16 :=
  (Memref.whole cc0_scratch8 : Memref sig .tc .vmem S2x1024x512 .bf16).view.readAt (Elt F)
    (Rect.unit (s := S2x1024x512) ![1, 0, 0] S1x1024x512.size inb_S2x1024x512_S1x1024x512_1_0_0).toLoadRect (w2Out m c)

/-- The part of the peer's result that device `c`'s experts contribute. -/
def yOut (c : Dev nD) : (cc0_scratch9 : Ref sig .tc).ty.Contents (Elt F) :=
  k0_pay27 (xOut m (peer c)) (k0_pay25 (atZero c) (xOut m (peer c)) (gOut m (peer c)) (w1At0 m c) (w2At0 m c))
    (k0_pay26 (atZero c) (gOut m (peer c))) (w1At1 m c) (w2At1 m c)

/-- The part of its own result that device `c`'s experts contribute. -/
def yOwn (c : Dev nD) : FVec F S256x512 .f32 :=
  k0_pay30 (atZero c) (xOut m c) (gOut m c) (k0_pay28 (F := F)) (k0_pay29 (atZero c) (gOut m c)) (w1At0 m c) (w2At0 m c)
    (w1At1 m c) (w2At1 m c)

/-- Device `c`'s result: its experts' part and its peer's. -/
def outAt (c : Dev nD) : (cc0_stg2_0 : Ref sig .tc).ty.Contents (Elt F) := k0_pay1 (yOwn m c) (yOut m (peer c))

/-! ## The cells -/

/-- The runtime's barrier semaphore. -/
abbrev barS : Sem sig := (SemArray.scalar (sig.barrier 0 rfl) : Sems sig S_).sem
/-- The semaphores of the local copies, the departures and the arrivals. -/
abbrev locS0 : DmaSem sig := ⟨3, by decide⟩
/-- The semaphore of the local copy of the second weights. -/
abbrev locS1 : DmaSem sig := ⟨4, by decide⟩
/-- Sent: the tokens. -/
abbrev sndX : DmaSem sig := ⟨5, by decide⟩
/-- Sent: the router columns. -/
abbrev sndR : DmaSem sig := ⟨6, by decide⟩
/-- Sent: the gating weights. -/
abbrev sndG : DmaSem sig := ⟨7, by decide⟩
/-- Sent: the part computed for the peer. -/
abbrev sndY : DmaSem sig := ⟨8, by decide⟩
/-- Received: the tokens. -/
abbrev rcvX : DmaSem sig := ⟨9, by decide⟩
/-- Received: the router columns. -/
abbrev rcvR : DmaSem sig := ⟨10, by decide⟩
/-- Received: the gating weights. -/
abbrev rcvG : DmaSem sig := ⟨11, by decide⟩
/-- Received: the part the peer computed. -/
abbrev rcvY : DmaSem sig := ⟨12, by decide⟩

/-! The kernel reaches them by slicing its three semaphore arrays. -/

/-- Element 0 of the local copies' semaphores. -/
theorem loc0_eq : ((cc0_scratch11.slice (Rect.unit (s := S2) ![0] S1.size inb_S2_S1_0)).squeeze S_ squeezes_S1_S_).sem = locS0 := rfl
/-- Element 1 of the local copies' semaphores. -/
theorem loc1_eq : ((cc0_scratch11.slice (Rect.unit (s := S2) ![1] S1.size inb_S2_S1_1)).squeeze S_ squeezes_S1_S_).sem = locS1 := rfl
/-- Element 0 of the send semaphores. -/
theorem snd0_eq : ((cc0_scratch12.slice (Rect.unit (s := S4) ![0] S1.size inb_S4_S1_0)).squeeze S_ squeezes_S1_S_).sem = sndX := rfl
/-- Element 1 of the send semaphores. -/
theorem snd1_eq : ((cc0_scratch12.slice (Rect.unit (s := S4) ![1] S1.size inb_S4_S1_1)).squeeze S_ squeezes_S1_S_).sem = sndR := rfl
/-- Element 2 of the send semaphores. -/
theorem snd2_eq : ((cc0_scratch12.slice (Rect.unit (s := S4) ![2] S1.size inb_S4_S1_2)).squeeze S_ squeezes_S1_S_).sem = sndG := rfl
/-- Element 3 of the send semaphores. -/
theorem snd3_eq : ((cc0_scratch12.slice (Rect.unit (s := S4) ![3] S1.size inb_S4_S1_3)).squeeze S_ squeezes_S1_S_).sem = sndY := rfl
/-- Element 0 of the receive semaphores. -/
theorem rcv0_eq : ((cc0_scratch13.slice (Rect.unit (s := S4) ![0] S1.size inb_S4_S1_0)).squeeze S_ squeezes_S1_S_).sem = rcvX := rfl
/-- Element 1 of the receive semaphores. -/
theorem rcv1_eq : ((cc0_scratch13.slice (Rect.unit (s := S4) ![1] S1.size inb_S4_S1_1)).squeeze S_ squeezes_S1_S_).sem = rcvR := rfl
/-- Element 2 of the receive semaphores. -/
theorem rcv2_eq : ((cc0_scratch13.slice (Rect.unit (s := S4) ![2] S1.size inb_S4_S1_2)).squeeze S_ squeezes_S1_S_).sem = rcvG := rfl
/-- Element 3 of the receive semaphores. -/
theorem rcv3_eq : ((cc0_scratch13.slice (Rect.unit (s := S4) ![3] S1.size inb_S4_S1_3)).squeeze S_ squeezes_S1_S_).sem = rcvY := rfl

/-- Device `c`'s barrier cell. -/
abbrev barCell (c : Dev nD) : GSem nD τ sig := ((c : Thread nD τ), .reg barS)
/-- Device `c`'s cell of a DMA semaphore. -/
abbrev dCell (c : Dev nD) (q : DmaSem sig) : GSem nD τ sig := ((c : Thread nD τ), .dma q)

/-! ## The credits -/

/-- The units that a copy of the tokens pays. -/
abbrev nX : ℕ := (Memref.whole cc0_scratch1 : Memref sig .tc .vmem S256x512 .bf16).view.dmaCredit
/-- The units that a copy of the router columns pays. -/
abbrev nR : ℕ := (Memref.whole cc0_scratch2 : Memref sig .tc .vmem S512x2 .f32).view.dmaCredit
/-- The units that a copy of the gating weights pays. -/
abbrev nG : ℕ := (Memref.whole cc0_scratch4 : Memref sig .tc .vmem S256x4 .f32).view.dmaCredit
/-- The units that a copy of a part of the result pays. -/
abbrev nY : ℕ := (Memref.whole cc0_scratch10 : Memref sig .tc .vmem S256x512 .bf16).view.dmaCredit

/-! ## The payloads -/

/-- A whole buffer of device `c` at contents `f`. -/
abbrev pts (c : Dev nD) (b : Ref sig .tc) (f : Buf (Elt F) ((c : Thread nD τ).loc b)) : sProp 𝕄 :=
  ((Memref.whole b).view.loc (c : Thread nD τ)) ↦[Finset.univ]{fullShare} f

/-- What a device's signal hands its peer: the buffers the peer's copies land in, each at some contents, and that the
    device's arrival cells are at their round. -/
def barPay (c : Dev nD) : sProp 𝕄 :=
  iprop((∃ f, pts (peer c) cc0_scratch1 f) ∗ (∃ f, pts (peer c) cc0_scratch2 f) ∗ (∃ f, pts (peer c) cc0_scratch4 f)
    ∗ (∃ f, pts (peer c) cc0_scratch10 f)
    ∗ reached ER (dCell (peer c) rcvX) 0 ∗ reached ER (dCell (peer c) rcvR) 0 ∗ reached ER (dCell (peer c) rcvG) 0
    ∗ reached ER (dCell (peer c) rcvY) 0)

/-- The payload of a DMA cell: a departure returns its source, an arrival brings the landing buffer with the peer's
    contents. -/
def dmaPay (c : Dev nD) (q : ℕ) : sProp 𝕄 :=
  match q with
  | 5 => pts c cc0_scratch0 (xOut m c)
  | 6 => pts c cc0_stg1_0 (rIn m c)
  | 7 => pts c cc0_scratch3 (gOut m c)
  | 8 => pts c cc0_scratch9 (yOut m c)
  | 9 => pts c cc0_scratch1 (xOut m (peer c))
  | 10 => pts c cc0_scratch2 (rIn m (peer c))
  | 11 => pts c cc0_scratch4 (gOut m (peer c))
  | 12 => pts c cc0_scratch10 (yOut m (peer c))
  | _ => iprop(emp)

/-- The credit of a DMA cell. -/
def dmaAmt (q : ℕ) : ℕ :=
  match q with
  | 5 => nX | 9 => nX | 6 => nR | 10 => nR | 7 => nG | 11 => nG | 8 => nY | 12 => nY | _ => 1

/-- Every amount is positive. -/
theorem dmaAmt_pos (q : ℕ) : 0 < dmaAmt q := by
  unfold dmaAmt
  split <;> first | exact Nat.one_pos | exact View.dmaCredit_pos _ (by decide)

/-- The semaphores of the exchange. -/
def used : SemLoc sig → Prop
  | .reg s => s = barS
  | .dma q => 5 ≤ q.val

/-- Being used is decided case by case. -/
instance : DecidablePred used := fun sm => by cases sm <;> (unfold used; infer_instance)

/-- One round per cell, one duty in it. -/
def sched : Rounds.Schedule (GSem nD τ sig) Unit 𝕄 where
  duties g r := if r = 0 ∧ g.1.2 = .tc ∧ used g.2 then {()} else ∅
  unitless _ := False
  amount g _ _ := match g.2 with | .reg _ => 1 | .dma q => dmaAmt q.val
  payload g _ _ := match g.2 with | .reg _ => barPay g.1.1 | .dma q => dmaPay m g.1.1 q.val
  amount_pos g _ _ _ := by
    rcases g.2 with s | q
    · exact Nat.one_pos
    · exact dmaAmt_pos _

/-- What a copy's cell hands over can be kept in an invariant. -/
instance dmaPay_storable (c : Dev nD) (q : ℕ) : BI.Storable (upEmb : UEmb _ 𝕄) (dmaPay m c q) := by
  unfold dmaPay
  split <;> infer_instance

/-- What any cell hands over can be kept in an invariant. -/
instance sched_storable (g : GSem nD τ sig) (r : ℕ) (d : Unit) : BI.Storable (upEmb : UEmb _ 𝕄) ((sched m).payload g r d) := by
  show BI.Storable upEmb (match g.2 with | .reg _ => barPay g.1.1 | .dma q => dmaPay m g.1.1 q.val)
  rcases g.2 with s | q
  · show BI.Storable upEmb (barPay g.1.1)
    unfold barPay; infer_instance
  · exact dmaPay_storable m _ _

section Tables
variable (c : Dev nD)

/-- The barrier's cell has one duty. -/
theorem duties_bar : (sched m).duties (barCell c) 0 = {()} := by
  dsimp only [sched]; exact if_pos ⟨rfl, rfl, rfl⟩
/-- A remote copy's cell has one duty. -/
theorem duties_dma (q : DmaSem sig) (h : 5 ≤ q.val) : (sched m).duties (dCell c q) 0 = {()} := if_pos ⟨rfl, rfl, h⟩
/-- After its first round a cell has none. -/
theorem duties_later (g : GSem nD τ sig) : ∀ r, 1 ≤ r → (sched m).duties g r = ∅ :=
  fun r hr => if_neg fun h => by omega

/-- The barrier's duty pays one unit. -/
theorem amount_bar (d : Unit) : (sched m).amount (barCell c) 0 d = 1 := rfl
/-- A copy's duty pays the copy's units. -/
theorem amount_dma (q : DmaSem sig) (d : Unit) : (sched m).amount (dCell c q) 0 d = dmaAmt q.val := rfl

/-- The barrier's wait is for one unit. -/
theorem expect_bar : (sched m).expect (barCell c) 0 = 1 := by
  unfold Schedule.expect Schedule.amountOf; rw [duties_bar, Finset.sum_singleton, amount_bar]
/-- A copy's wait is for the copy's units. -/
theorem expect_dma (q : DmaSem sig) (h : 5 ≤ q.val) : (sched m).expect (dCell c q) 0 = dmaAmt q.val := by
  unfold Schedule.expect Schedule.amountOf; rw [duties_dma m c q h, Finset.sum_singleton, amount_dma]

/-- What the barrier's signal hands over. -/
theorem payload_bar (d : Unit) : (sched m).payload (barCell c) 0 d = barPay c := rfl
/-- What a copy's landing hands over. -/
theorem payload_dma (q : DmaSem sig) (d : Unit) : (sched m).payload (dCell c q) 0 d = dmaPay m c q.val := rfl

/-- The round of a barrier cell, no duty taken yet: its one payload. -/
theorem rest_bar : bigSep ((sched m).duties (barCell c) 0 \ ∅) (fun d => (sched m).payload (barCell c) 0 d) = barPay c := by
  rw [Finset.sdiff_empty, duties_bar, bigSep_singleton, payload_bar]
/-- The round of a DMA cell, no duty taken yet: its one payload. -/
theorem rest_dma (q : DmaSem sig) (h : 5 ≤ q.val) :
    bigSep ((sched m).duties (dCell c q) 0 \ ∅) (fun d => (sched m).payload (dCell c q) 0 d) = dmaPay m c q.val := by
  rw [Finset.sdiff_empty, duties_dma m c q h, bigSep_singleton, payload_dma]

end Tables

/-! ## What each device owes at launch, and the levels -/

/-- After the three earlier copies: the partial results' arrival. -/
def owe3 (c : Dev nD) : CellTallies nD τ sig Unit := tallyAt (dCell (peer c) rcvY) () nY
/-- After the tokens' copy: also the gating weights'. -/
def owe2 (c : Dev nD) : CellTallies nD τ sig Unit := owe3 c + tallyAt (dCell (peer c) rcvG) () nG
/-- After the router's copy: also the tokens'. -/
def owe1 (c : Dev nD) : CellTallies nD τ sig Unit := owe2 c + tallyAt (dCell (peer c) rcvX) () nX
/-- After the signal: also the router's. -/
def owe0 (c : Dev nD) : CellTallies nD τ sig Unit := owe1 c + tallyAt (dCell (peer c) rcvR) () nR
/-- At launch: also the peer's barrier unit. -/
def oweL (c : Dev nD) : CellTallies nD τ sig Unit := owe0 c + tallyAt (barCell (peer c)) () 1

/-- Tallies are at TensorCores' cells. -/
def L (g : GSem nD τ sig) : Finset Unit := if g.1.2 = .tc then {()} else ∅
/-- The order in which the waits may block: local copies and departures, the barrier, router and tokens, gating
    weights, partial results. -/
def lv (g : GSem nD τ sig) (_ : Unit) : ℕ :=
  match g.2 with
  | .reg _ => 1
  | .dma q => match q.val with | 9 => 2 | 10 => 2 | 11 => 3 | 12 => 4 | _ => 0

/-- Only the TensorCores' cells are levelled. -/
theorem L_of_ne (g : GSem nD τ sig) (h : g.1.2 ≠ .tc) : L g = ∅ := if_neg h
/-- Every TensorCore's cell is levelled. -/
theorem L_tc (c : Dev nD) (sm : SemLoc sig) : L ((c : Thread nD τ), sm) = {()} := if_pos rfl

/-- A debt is at level `n` or above, at TensorCores' cells. -/
def Above (n : ℕ) (O : CellTallies nD τ sig Unit) : Prop := ∀ g u, 0 < O g u → L g = {()} ∧ n ≤ lv g u

/-- One debt at a cell of level `n` is above `n`. -/
theorem above_tally {n : ℕ} {g : GSem nD τ sig} {k : ℕ} (hL : L g = {()}) (h : n ≤ lv g ()) : Above n (tallyAt g () k) := by
  intro g' u hg
  rw [tallyAt_apply] at hg
  by_cases e : g' = g ∧ u = ()
  · rw [e.1]; exact ⟨hL, h⟩
  · rw [if_neg e] at hg; exact absurd hg (Nat.lt_irrefl 0)

/-- Two debts above `n` are so together. -/
theorem above_add {n : ℕ} {O P : CellTallies nD τ sig Unit} (hO : Above n O) (hP : Above n P) : Above n (O + P) := by
  intro g u hg
  rw [Pi.add_apply, Finsupp.add_apply] at hg
  rcases Nat.eq_zero_or_pos (O g u) with h | h
  · exact hP g u (by omega)
  · exact hO g u h

/-- What is above a level is above any lower one. -/
theorem above_mono {n k : ℕ} {O : CellTallies nD τ sig Unit} (h : k ≤ n) (hO : Above n O) : Above k O :=
  fun g u hg => ⟨(hO g u hg).1, h.trans (hO g u hg).2⟩

/-- The level of what is owed before the last send. -/
theorem above3 (c : Dev nD) : Above 4 (owe3 c) := above_tally (L_tc _ _) (show 4 ≤ 4 by decide)
/-- The level of what is owed before the gating weights are sent. -/
theorem above2 (c : Dev nD) : Above 3 (owe2 c) := above_add (above_mono (by decide) (above3 c)) (above_tally (L_tc _ _) (show 3 ≤ 3 by decide))
/-- The level of what is owed before the tokens are sent. -/
theorem above1 (c : Dev nD) : Above 2 (owe1 c) := above_add (above_mono (by decide) (above2 c)) (above_tally (L_tc _ _) (show 2 ≤ 2 by decide))
/-- The level of what is owed after the barrier's signal. -/
theorem above0 (c : Dev nD) : Above 2 (owe0 c) := above_add (above1 c) (above_tally (L_tc _ _) (show 2 ≤ 2 by decide))
/-- The level of what is owed at the start. -/
theorem aboveL (c : Dev nD) : Above 1 (oweL c) := above_add (above_mono (by decide) (above0 c)) (above_tally (L_tc _ _) (show 1 ≤ 1 by decide))

/-- A wait below everything owed may block. -/
theorem mayWait (c : Dev nD) (sm : SemLoc sig) (n : ℕ) (O : CellTallies nD τ sig Unit) (hO : Above (n + 1) O)
    (h : lv ((c : Thread nD τ), sm) () ≤ n) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [(hO g u hg).1]; exact Finset.mem_singleton_self _)
    (fun p hp => by rw [Finset.mem_singleton.mp hp]; exact h)
    (fun g u hg => (hO g u hg).2)

end Cert.Exchange

end
-- ==== Proof.Data.lean ====
/-
# The exchange: what a device's body starts from and ends with

The ghost state each device is dealt, the pipeline's proof data, and the body's two boundary assertions.
-/
module

public import proofs.«01_k».proof.Proof.Proto

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The semaphores of the exchange, in order: the barrier, the four departures, the four arrivals. -/
abbrev csem : Fin 9 → SemLoc sig := fun
  | 0 => .reg barS
  | 1 => .dma sndX | 2 => .dma sndR | 3 => .dma sndG | 4 => .dma sndY
  | 5 => .dma rcvX | 6 => .dma rcvR | 7 => .dma rcvG | 8 => .dma rcvY
/-- The cell of a device and one of these semaphores. -/
abbrev kcell (ck : Dev nD × Fin 9) : GSem nD τ sig := ((ck.1 : Thread nD τ), csem ck.2)

/-- The invariants device `c` opens: its own nine cells', and those of the five cells it pays at its peer. -/
def invs (K : Dev nD × Fin 9 → ℕ) (c : Dev nD) : sProp 𝕄 :=
  iprop(cellInv ER (sched m) (K (c, 0)) (barCell c)
    ∗ cellInv ER (sched m) (K (c, 1)) (dCell c sndX) ∗ cellInv ER (sched m) (K (c, 2)) (dCell c sndR)
    ∗ cellInv ER (sched m) (K (c, 3)) (dCell c sndG) ∗ cellInv ER (sched m) (K (c, 4)) (dCell c sndY)
    ∗ cellInv ER (sched m) (K (c, 5)) (dCell c rcvX) ∗ cellInv ER (sched m) (K (c, 6)) (dCell c rcvR)
    ∗ cellInv ER (sched m) (K (c, 7)) (dCell c rcvG) ∗ cellInv ER (sched m) (K (c, 8)) (dCell c rcvY)
    ∗ cellInv ER (sched m) (K (peer c, 0)) (barCell (peer c))
    ∗ cellInv ER (sched m) (K (peer c, 5)) (dCell (peer c) rcvX) ∗ cellInv ER (sched m) (K (peer c, 6)) (dCell (peer c) rcvR)
    ∗ cellInv ER (sched m) (K (peer c, 7)) (dCell (peer c) rcvG) ∗ cellInv ER (sched m) (K (peer c, 8)) (dCell (peer c) rcvY))

/-- A device's invariants can be used again. -/
instance invs_persistent (K : Dev nD × Fin 9 → ℕ) (c : Dev nD) : BI.Persistent (invs m K c) := by unfold invs; infer_instance

/-- The cells device `c` knows to be at their round: its own, and its peer's barrier. -/
def marks (c : Dev nD) : sProp 𝕄 :=
  iprop(reached ER (barCell (peer c)) 0
    ∗ reached ER (dCell c sndX) 0 ∗ reached ER (dCell c sndR) 0 ∗ reached ER (dCell c sndG) 0 ∗ reached ER (dCell c sndY) 0
    ∗ reached ER (dCell c rcvX) 0 ∗ reached ER (dCell c rcvR) 0 ∗ reached ER (dCell c rcvG) 0 ∗ reached ER (dCell c rcvY) 0)

/-- A device's marks can be used again. -/
instance marks_persistent (c : Dev nD) : BI.Persistent (marks (F := F) c) := by unfold marks; infer_instance

/-- Device `c`'s places at its nine cells. -/
def places (c : Dev nD) : sProp 𝕄 :=
  iprop(atPos ER (barCell c) 0 ∅ 0
    ∗ atPos ER (dCell c sndX) 0 ∅ 0 ∗ atPos ER (dCell c sndR) 0 ∅ 0 ∗ atPos ER (dCell c sndG) 0 ∅ 0 ∗ atPos ER (dCell c sndY) 0 ∅ 0
    ∗ atPos ER (dCell c rcvX) 0 ∅ 0 ∗ atPos ER (dCell c rcvR) 0 ∅ 0 ∗ atPos ER (dCell c rcvG) 0 ∅ 0 ∗ atPos ER (dCell c rcvY) 0 ∅ 0)

/-- The tokens of the nine duties device `c` pays: its peer's barrier and arrivals, its own departures. -/
def payToks (c : Dev nD) : sProp 𝕄 :=
  iprop(dutyTok ER (barCell (peer c)) 0 ()
    ∗ dutyTok ER (dCell c sndX) 0 () ∗ dutyTok ER (dCell c sndR) 0 () ∗ dutyTok ER (dCell c sndG) 0 () ∗ dutyTok ER (dCell c sndY) 0 ()
    ∗ dutyTok ER (dCell (peer c) rcvX) 0 () ∗ dutyTok ER (dCell (peer c) rcvR) 0 () ∗ dutyTok ER (dCell (peer c) rcvG) 0 ()
    ∗ dutyTok ER (dCell (peer c) rcvY) 0 ())

/-- The credit of what the peer owes device `c`. -/
def credits (c : Dev nD) : sProp 𝕄 :=
  iprop(cred (tallyAt (barCell c) () 1) ∗ cred (tallyAt (dCell c rcvX) () nX) ∗ cred (tallyAt (dCell c rcvR) () nR)
    ∗ cred (tallyAt (dCell c rcvG) () nG) ∗ cred (tallyAt (dCell c rcvY) () nY))

/-- The exchange's ghost state on device `c`, at the names `K`; the two local copies' semaphores at zero. -/
def ghost (K : Dev nD × Fin 9 → ℕ) (c : Dev nD) : sProp 𝕄 :=
  iprop(invs m K c ∗ marks c ∗ places c ∗ payToks c ∗ semVal (dCell c locS0) 0 ∗ semVal (dCell c locS1) 0)

/-- What device `c`'s body starts from beside its scoped buffers: that, its credit, the levels, and the weights it reads
    from HBM. -/
def start (c : Dev nD) : sProp 𝕄 :=
  iprop((∃ K, ghost m K c) ∗ credits c ∗ levAts L lv ∗ pts c main_arg2 (m ((c : Thread nD τ).loc main_arg2)) ∗ pts c main_arg3 (m ((c : Thread nD τ).loc main_arg3)))

/-- The scratch buffers, each at some contents. -/
def scratch (c : Dev nD) : sProp 𝕄 :=
  iprop((∃ f, pts c cc0_scratch0 f) ∗ (∃ f, pts c cc0_scratch1 f) ∗ (∃ f, pts c cc0_scratch2 f) ∗ (∃ f, pts c cc0_scratch3 f)
    ∗ (∃ f, pts c cc0_scratch4 f) ∗ (∃ f, pts c cc0_scratch5 f) ∗ (∃ f, pts c cc0_scratch6 f) ∗ (∃ f, pts c cc0_scratch7 f)
    ∗ (∃ f, pts c cc0_scratch8 f) ∗ (∃ f, pts c cc0_scratch9 f) ∗ (∃ f, pts c cc0_scratch10 f))

/-- Every semaphore of the kernel on device `c` at zero, the runtime's barrier among them. -/
def quiet (c : Dev nD) : sProp 𝕄 :=
  iprop(semVal (barCell c) 0
    ∗ semVal (dCell c sndX) 0 ∗ semVal (dCell c sndR) 0 ∗ semVal (dCell c sndG) 0 ∗ semVal (dCell c sndY) 0
    ∗ semVal (dCell c rcvX) 0 ∗ semVal (dCell c rcvR) 0 ∗ semVal (dCell c rcvG) 0 ∗ semVal (dCell c rcvY) 0
    ∗ semVal (dCell c locS0) 0 ∗ semVal (dCell c locS1) 0)

/-- The invariant before the one grid point. -/
def Φ₀ (c : Dev nD) : sProp 𝕄 := iprop(start m c ∗ scratch c)
/-- The invariant after it: the semaphores quiet, the HBM weights as they were. -/
def Φ₁ (c : Dev nD) : sProp 𝕄 :=
  iprop(quiet c ∗ (pts c main_arg2 (m ((c : Thread nD τ).loc main_arg2)) ∗ pts c main_arg3 (m ((c : Thread nD τ).loc main_arg3))) ∗ scratch c)

/-- The pipeline's proof data on device `c`. -/
def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => rIn m c
    | ⟨2, _⟩ => outAt m c
  Φ t := match t with
    | ⟨0, _⟩ => Φ₀ m c
    | ⟨_ + 1, _⟩ => Φ₁ m c
  q _ := fullShare
  owed t := match t with
    | ⟨0, _⟩ => oweL c
    | ⟨_ + 1, _⟩ => 0

/-- No label of the kernel recurs. -/
abbrev 𝒱₀ : Variants := Variants.none

/-- A whole staging buffer held through its memref is the buffer's points-to. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The one grid point. -/
def t₀ : Fin cfg0.N := ⟨0, by decide⟩
/-- There is one grid point. -/
theorem fin_t₀ (t : Fin cfg0.N) : t = t₀ := by
  have h : cfg0.N = 1 := by decide
  exact Fin.ext (by have := t.isLt; simp only [t₀]; omega)

/-- A staging buffer at contents `X`, as the pipeline hands it. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is handed. -/
def bodyPre (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

/-- What the body hands back. -/
def bodyPost (c : Dev nD) : sProp 𝕄 :=
  iprop(Φ₁ m c ∗ (dats m 0 c).owesAt () t₀.succ
    ∗ stg c cc0_stg0_0 (xIn m c) ∗ stg c cc0_stg1_0 (rIn m c) ∗ stg c cc0_stg2_0 (outAt m c))

end Cert.Exchange

end
-- ==== Proof.Body.lean ====
/-
# The exchange: the body, executed

One run of the kernel's body at a symbolic device, from what the launch deals it to what it leaves.
-/
module

public import proofs.«01_k».proof.Proof.Data
public import Idealize.ShloMosaic.Lib.VecWindow

@[expose] public section

set_option maxRecDepth 16384

noncomputable section

namespace Cert.Exchange

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! The schedule's tables, cell by cell, as the run reads them. -/

section Tables
variable (c : Dev nD)
/-- The send cell of the tokens hands them back. -/
theorem pay_sndX : (sched m).payload (dCell c sndX) 0 () = pts c cc0_scratch0 (xOut m c) := rfl
/-- The send cell of the router columns hands them back. -/
theorem pay_sndR : (sched m).payload (dCell c sndR) 0 () = pts c cc0_stg1_0 (rIn m c) := rfl
/-- The send cell of the gating weights hands them back. -/
theorem pay_sndG : (sched m).payload (dCell c sndG) 0 () = pts c cc0_scratch3 (gOut m c) := rfl
/-- The send cell of the peer's part hands it back. -/
theorem pay_sndY : (sched m).payload (dCell c sndY) 0 () = pts c cc0_scratch9 (yOut m c) := rfl
/-- The receive cell of the tokens hands over the peer's. -/
theorem pay_rcvX : (sched m).payload (dCell c rcvX) 0 () = pts c cc0_scratch1 (xOut m (peer c)) := rfl
/-- The receive cell of the router columns hands over the peer's. -/
theorem pay_rcvR : (sched m).payload (dCell c rcvR) 0 () = pts c cc0_scratch2 (rIn m (peer c)) := rfl
/-- The receive cell of the gating weights hands over the peer's. -/
theorem pay_rcvG : (sched m).payload (dCell c rcvG) 0 () = pts c cc0_scratch4 (gOut m (peer c)) := rfl
/-- The receive cell of a part hands over the one the peer computed. -/
theorem pay_rcvY : (sched m).payload (dCell c rcvY) 0 () = pts c cc0_scratch10 (yOut m (peer c)) := rfl
end Tables

attribute [local sl_rounds] duties_bar duties_dma amount_bar amount_dma expect_bar expect_dma payload_bar barPay
  pay_sndX pay_sndR pay_sndG pay_sndY pay_rcvX pay_rcvR pay_rcvG pay_rcvY peer_peer
attribute [local sl_canon] loc0_eq loc1_eq snd0_eq snd1_eq snd2_eq snd3_eq rcv0_eq rcv1_eq rcv2_eq rcv3_eq

/-- A load of a whole buffer reads its contents. -/
theorem load_whole (b : Ref sig .tc) {off : Fin b.ty.shape.rank → ℕ} (inb : ∀ a, off a + b.ty.shape.size a ≤ b.ty.shape.size a)
    (f : b.ty.Contents (Elt F)) :
    (Memref.whole b : Memref sig .tc _ _ _).view.readAt (Elt F) (Rect.unit off b.ty.shape.size inb).toLoadRect f = f :=
  View.readAt_full _ _ inb
/-- A store of a whole buffer leaves what is stored. -/
theorem store_whole (b : Ref sig .tc) {off : Fin b.ty.shape.rank → ℕ} (inb : ∀ a, off a + b.ty.shape.size a ≤ b.ty.shape.size a)
    (f w : b.ty.Contents (Elt F)) :
    (Memref.whole b : Memref sig .tc _ _ _).view.writes (Elt F) f [⟨Rect.unit off b.ty.shape.size inb, w⟩] = w :=
  View.read_writes_full (Memref.whole b : Memref sig .tc _ _ _).view f inb w []

/-- A whole buffer over which a local copy landed holds the copied contents. -/
theorem landed_whole (c : Dev nD) (b : Ref sig .tc) (f w : Buf (Elt F) ((c : Thread nD τ).loc b)) :
    (((View.whole b : View sig .tc _ _ _).loc (c : Thread nD τ) ↦[Finset.univ]{fullShare} (View.whole b : View sig .tc _ _ _).write (Elt F) f w Finset.univ) : sProp 𝕄)
      ⊢ pts c b w := by
  rw [View.write_whole_univ]

/-- A whole buffer stored over holds what is stored. -/
theorem stored_whole (c : Dev nD) (b : Ref sig .tc) {off : Fin b.ty.shape.rank → ℕ} (inb : ∀ a, off a + b.ty.shape.size a ≤ b.ty.shape.size a)
    (f w : b.ty.Contents (Elt F)) :
    (((View.whole b : View sig .tc _ _ _).loc (c : Thread nD τ) ↦[Finset.univ]{fullShare}
      ((View.whole b : View sig .tc _ _ _).writes (Elt F) f [⟨Rect.unit off b.ty.shape.size inb, w⟩] : Buf (Elt F) ((c : Thread nD τ).loc b))) : sProp 𝕄)
      ⊢ pts c b w :=
  BIBase.Entails.of_eq (congrArg (fun g : Buf (Elt F) ((c : Thread nD τ).loc b) => (pts c b g : sProp 𝕄)) (store_whole b inb f w))

/-! The kernel's whole loads. -/

/-- The staged tokens. -/
theorem ld_x (f : (cc0_stg0_0 : Ref sig .tc).ty.Contents (Elt F)) :
    (Memref.whole cc0_stg0_0 : Memref sig .tc .vmem S256x512 .f32).view.readAt (Elt F)
      (Rect.unit (s := S256x512) ![0, 0] S256x512.size inb_S256x512_S256x512_0_0).toLoadRect f = f := load_whole cc0_stg0_0 _ f
/-- The staged router columns. -/
theorem ld_r (f : (cc0_stg1_0 : Ref sig .tc).ty.Contents (Elt F)) :
    (Memref.whole cc0_stg1_0 : Memref sig .tc .vmem S512x2 .f32).view.readAt (Elt F)
      (Rect.unit (s := S512x2) ![0, 0] S512x2.size inb_S512x2_S512x2_0_0).toLoadRect f = f := load_whole cc0_stg1_0 _ f
/-- The peer's router columns. -/
theorem ld_p (f : (cc0_scratch2 : Ref sig .tc).ty.Contents (Elt F)) :
    (Memref.whole cc0_scratch2 : Memref sig .tc .vmem S512x2 .f32).view.readAt (Elt F)
      (Rect.unit (s := S512x2) ![0, 0] S512x2.size inb_S512x2_S512x2_0_0).toLoadRect f = f := load_whole cc0_scratch2 _ f
/-- The first weights, copied in. -/
theorem ld_w1 (f : (cc0_scratch5 : Ref sig .tc).ty.Contents (Elt F)) :
    (Memref.whole cc0_scratch5 : Memref sig .tc .vmem S2x512x1024 .f32).view.readAt (Elt F)
      (Rect.unit (s := S2x512x1024) ![0, 0, 0] S2x512x1024.size inb_S2x512x1024_S2x512x1024_0_0_0).toLoadRect f = f := load_whole cc0_scratch5 _ f
/-- The second weights, copied in. -/
theorem ld_w2 (f : (cc0_scratch6 : Ref sig .tc).ty.Contents (Elt F)) :
    (Memref.whole cc0_scratch6 : Memref sig .tc .vmem S2x1024x512 .f32).view.readAt (Elt F)
      (Rect.unit (s := S2x1024x512) ![0, 0, 0] S2x1024x512.size inb_S2x1024x512_S2x1024x512_0_0_0).toLoadRect f = f := load_whole cc0_scratch6 _ f

/-- The tokens to send. -/
theorem ld_xs (f : (cc0_scratch0 : Ref sig .tc).ty.Contents (Elt F)) :
    (Memref.whole cc0_scratch0 : Memref sig .tc .vmem S256x512 .bf16).view.readAt (Elt F)
      (Rect.unit (s := S256x512) ![0, 0] S256x512.size inb_S256x512_S256x512_0_0).toLoadRect f = f := load_whole cc0_scratch0 _ f
/-- The tokens received. -/
theorem ld_xr (f : (cc0_scratch1 : Ref sig .tc).ty.Contents (Elt F)) :
    (Memref.whole cc0_scratch1 : Memref sig .tc .vmem S256x512 .bf16).view.readAt (Elt F)
      (Rect.unit (s := S256x512) ![0, 0] S256x512.size inb_S256x512_S256x512_0_0).toLoadRect f = f := load_whole cc0_scratch1 _ f
/-- The gating weights to send. -/
theorem ld_gs (f : (cc0_scratch3 : Ref sig .tc).ty.Contents (Elt F)) :
    (Memref.whole cc0_scratch3 : Memref sig .tc .vmem S256x4 .f32).view.readAt (Elt F)
      (Rect.unit (s := S256x4) ![0, 0] S256x4.size inb_S256x4_S256x4_0_0).toLoadRect f = f := load_whole cc0_scratch3 _ f
/-- The gating weights received. -/
theorem ld_gr (f : (cc0_scratch4 : Ref sig .tc).ty.Contents (Elt F)) :
    (Memref.whole cc0_scratch4 : Memref sig .tc .vmem S256x4 .f32).view.readAt (Elt F)
      (Rect.unit (s := S256x4) ![0, 0] S256x4.size inb_S256x4_S256x4_0_0).toLoadRect f = f := load_whole cc0_scratch4 _ f
/-- The part received. -/
theorem ld_y (f : (cc0_scratch10 : Ref sig .tc).ty.Contents (Elt F)) :
    (Memref.whole cc0_scratch10 : Memref sig .tc .vmem S256x512 .bf16).view.readAt (Elt F)
      (Rect.unit (s := S256x512) ![0, 0] S256x512.size inb_S256x512_S256x512_0_0).toLoadRect f = f := load_whole cc0_scratch10 _ f

/-- A copy to the peer: a whole buffer `src` lent until the departure cell's round, the peer's buffer `dst` handed over
    rewritten with it, the arrival's credit taken off what the device owes. -/
theorem send_step (K : Dev nD × Fin 9 → ℕ) (c : Dev nD) (qs qr : DmaSem sig) (hqs : 5 ≤ qs.val) (hqr : 5 ≤ qr.val)
    (i j : Fin 9) (N : ℕ) {sp sp' : Space} {s : Shape} {e : EltTy} {src : Memref sig .tc sp s e} {dst : Memref sig (Dev.tc (peer c) : Thread nD τ).2.kind sp' s e}
    {hsc : dst.view.ref.isScScratch = false} {hsrc : src.view.WordExact} {hdst : dst.view.WordExact}
    {hsem : DmaTarget.Typed sp (.dma qr) (.remote (Dev.tc (peer c) : Thread nD τ) dst (.dma qs) hsc)}
    {α : Type} {Q : α → sProp 𝕄} {k : PUnit → Prog (TpuEff nD τ sig (Elt F) Λ₀ .tc) α}
    (hss : src.view.set = Finset.univ) (hds : dst.view.set = Finset.univ) (hN : dst.view.amount (.dma qr) = N)
    (hks : dmaAmt qs.val = N) (hkr : dmaAmt qr.val = N) {O₀ : CellTallies nD τ sig Unit} (O : CellTallies nD τ sig Unit)
    (hO : O₀ = O + tallyAt (dCell (peer c) qr) () N) {W : Waits sig Unit}
    {fs : Buf (Elt F) (src.view.loc (c : Thread nD τ))} {fd ft : Buf (Elt F) (dst.view.loc ((peer c : Dev nD) : Thread nD τ))}
    (hft : dst.view.write (Elt F) fd (src.view.read (Elt F) fs) Finset.univ = ft)
    (hps : (src.view.loc (c : Thread nD τ) ↦[Finset.univ]{fullShare} fs) ⊢ dmaPay m c qs.val)
    (hpr : (dst.view.loc ((peer c : Dev nD) : Thread nD τ) ↦[Finset.univ]{fullShare} ft)
      ⊢ dmaPay m (peer c) qr.val) :
    iprop(cellInv ER (sched m) (K (c, i)) (dCell c qs) ∗ cellInv ER (sched m) (K (peer c, j)) (dCell (peer c) qr)
        ∗ (src.view.loc (c : Thread nD τ) ↦[Finset.univ]{fullShare} fs) ∗ (dst.view.loc ((peer c : Dev nD) : Thread nD τ) ↦[Finset.univ]{fullShare} fd)
        ∗ owes (c : Thread nD τ) O₀ W
        ∗ dutyTok ER (dCell c qs) 0 () ∗ reached ER (dCell c qs) 0
        ∗ dutyTok ER (dCell (peer c) qr) 0 () ∗ reached ER (dCell (peer c) qr) 0)
      ⊢ iprop(((cred (tallyAt (dCell c qs) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc (peer c) : Thread nD τ) dst (.dma qs) hsc) (.dma qr) hsrc hdst hsem) k) Q) := by
  refine (BIBase.Entails.of_eq ?_).trans (Rounds.wp_send_pointsTo 𝒱₀ ER (sched m) (c : Thread nD τ) none (κ₁ := K (c, i)) (κ₂ := K (peer c, j))
    (q := fullShare) (fs := fs) (fd := fd) (r₁ := 0) (r₂ := 0) (d₁ := ()) (d₂ := ())
    (by rw [duties_dma m c qs hqs]; exact Finset.mem_univ _) (by rw [duties_dma m (peer c) qr hqr]; exact Finset.mem_univ _)
    () () N hN ((amount_dma m c qs ()).trans hks) ((amount_dma m (peer c) qr ()).trans hkr) O hO (by rw [hss]; exact hps) (by rw [hds, hft]; exact hpr))
  rw [hss, hds]

/-- Owing nothing is what the body's end asks. -/
theorem owes_end (c : Dev nD) {W : Waits sig Unit} : (owes (c : Thread nD τ) 0 W : sProp 𝕄) ⊢ (dats m 0 c).owesAt () t₀.succ := by
  unfold Dat.owesAt Pipeline.owesWithin
  iintro H
  iexists W
  isplitr; · ipureintro; exact fun _ _ => Or.inl trivial
  iexact H

set_option maxHeartbeats 1000000 in
/-- The body, run from what the launch deals device `c` to what it leaves. -/
theorem sound_body (K : Dev nD × Fin 9 → ℕ) (c : Dev nD) (W : Waits sig Unit) (g2 : Buf (Elt F) ((c : Thread nD τ).loc cc0_stg2_0))
    (Q : PUnit → sProp 𝕄) :
    iprop((ghost m K c ∗ credits c ∗ levAts L lv ∗ pts c main_arg2 (m ((c : Thread nD τ).loc main_arg2)) ∗ pts c main_arg3 (m ((c : Thread nD τ).loc main_arg3)))
        ∗ scratch c ∗ owes (c : Thread nD τ) (oweL c) W
        ∗ pts c cc0_stg0_0 (xIn m c) ∗ pts c cc0_stg1_0 (rIn m c) ∗ pts c cc0_stg2_0 g2
        ∗ (bodyPost m c -∗ Q ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole main_arg2) (Memref.isWhole_whole _) (Memref.whole main_arg3) (Memref.isWhole_whole _)
            (Memref.whole cc0_stg2_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _) cc0_scratch11 cc0_scratch12 cc0_scratch13) Q := by
  have hd1 := dev1_eq
  have hd2 := dev2_eq
  have hd3 := dev3_eq
  have hd4 := dev4_eq
  have hd5 := dev5_eq
  have hw0 := mayWait (F := F) c (.reg barS) 1 (owe0 c) (above0 c) (Nat.le_refl 1)
  have hl0 := mayWait (F := F) c (.dma locS0) 0 (owe2 c) (above_mono (by decide) (above2 c)) (Nat.le_refl 0)
  have hl1 := mayWait (F := F) c (.dma locS1) 0 (owe2 c) (above_mono (by decide) (above2 c)) (Nat.le_refl 0)
  have hsR := mayWait (F := F) c (.dma sndR) 0 (owe2 c) (above_mono (by decide) (above2 c)) (Nat.le_refl 0)
  have hrR := mayWait (F := F) c (.dma rcvR) 2 (owe2 c) (above2 c) (Nat.le_refl 2)
  have hsX := mayWait (F := F) c (.dma sndX) 0 (owe3 c) (above_mono (by decide) (above3 c)) (Nat.le_refl 0)
  have hrX := mayWait (F := F) c (.dma rcvX) 2 (owe3 c) (above_mono (by decide) (above3 c)) (Nat.le_refl 2)
  have hsG := mayWait (F := F) c (.dma sndG) 0 (owe3 c) (above_mono (by decide) (above3 c)) (Nat.le_refl 0)
  have hrG := mayWait (F := F) c (.dma rcvG) 3 (owe3 c) (above3 c) (Nat.le_refl 3)
  have hsY := mayWait (F := F) c (.dma sndY) 0 0 (fun _ _ h => absurd h (Nat.lt_irrefl 0)) (Nat.le_refl 0)
  have hrY := mayWait (F := F) c (.dma rcvY) 4 0 (fun _ _ h => absurd h (Nat.lt_irrefl 0)) (Nat.le_refl 4)
  have p0 : oweL c = owe0 c + tallyAt (barCell (peer c)) () 1 := rfl
  have p1 : owe0 c = owe1 c + tallyAt (dCell (peer c) rcvR) () nR := rfl
  have p2 : owe1 c = owe2 c + tallyAt (dCell (peer c) rcvX) () nX := rfl
  have p3 : owe2 c = owe3 c + tallyAt (dCell (peer c) rcvG) () nG := rfl
  have p4 : owe3 c = 0 + tallyAt (dCell (peer c) rcvY) () nY := (zero_add _).symm
  unfold ghost credits invs marks places payToks scratch
  iintro ⟨⟨⟨⟨#HIb, #HIsX, #HIsR, #HIsG, #HIsY, #HIrX, #HIrR, #HIrG, #HIrY, #HIp⟩,
      ⟨#Hrb, #HrsX, #HrsR, #HrsG, #HrsY, #HrrX, #HrrR, #HrrG, #HrrY⟩,
      ⟨Hab, HasX, HasR, HasG, HasY, HarX, HarR, HarG, HarY⟩,
      ⟨Htb, HtsX, HtsR, HtsG, HtsY, HtrX, HtrR, HtrG, HtrY⟩, Hz0, Hz1⟩,
      ⟨Hcb, HcX, HcR, HcG, HcY⟩, #Hlev, HW1, HW2⟩,
      ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩⟩,
      HO, Hx, Hr, Ho, HQ⟩
  simp only [cc0_body_eq_skeleton, k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton]
  sl_unfold [cc0_body_skel, k0_part1_skel]
  sl_exec
  icases HIp with ⟨#HIpb, #HIpX, #HIpR, #HIpG, #HIpY⟩
  simp only [dev1_eq]
  iapply (Rounds.wp_signal 𝒱₀ ER (sched m) (c : Thread nD τ) none (dst := (peer c : Thread nD τ)) (κ := K (peer c, 0))
      (d := ()) (by rw [duties_bar]; exact Finset.mem_univ _) ((amount_bar m (peer c) ()).trans (by decide)) () (owe0 c) rfl)
    $$ [HO Htb H1 H2 H4 H10]
  · isplitr; · iexact HIpb
    isplitl [HO]; · iexact HO
    isplitl [Htb]; · iexact Htb
    isplitl [H1 H2 H4 H10]
    · rw [payload_bar]; unfold barPay; rw [peer_peer]
      isplitl [H1]; · iexists f1; iexact H1
      isplitl [H2]; · iexists f2; iexact H2
      isplitl [H4]; · iexists f4; iexact H4
      isplitl [H10]; · iexists f10; iexact H10
      isplitr; · iexact HrrX
      isplitr; · iexact HrrR
      isplitr; · iexact HrrG
      iexact HrrY
    · iexact Hrb
  iintro HO
  sl_exec
  simp only [snd1_eq, rcv1_eq]
  iapply (send_step m K c sndR rcvR (by decide) (by decide) 2 6 nR
      (src := (Memref.whole cc0_stg1_0 : Memref sig .tc .vmem S512x2 .f32)) (dst := (Memref.whole cc0_scratch2 : Memref sig .tc .vmem S512x2 .f32))
      (View.set_whole _) (View.set_whole _) rfl rfl rfl
      (owe1 c) p1 (fs := rIn m c) (ft := rIn m c) (View.write_whole_univ cc0_scratch2 _ (rIn m c)) .rfl
      (by show _ ⊢ pts (peer c) cc0_scratch2 (rIn m (peer (peer c))); rw [peer_peer])) $$ [Hr Hab_pay2 HO HtsR HtrR Hab_pay6]
  · isplitr; · iexact HIsR
    isplitr; · iexact HIpR
    isplitl [Hr]; · iexact Hr
    isplitl [Hab_pay2]; · iexact Hab_pay2
    isplitl [HO]; · iexact HO
    isplitl [HtsR]; · iexact HtsR
    isplitr; · iexact HrsR
    isplitl [HtrR]; · iexact HtrR
    iexact Hab_pay6
  iintro ⟨HcsR, HO⟩
  sl_exec
  ihave H0 := (stored_whole c cc0_scratch0 _ f0 _) $$ H0
  rw [ld_x]
  simp only [snd0_eq, rcv0_eq]
  iapply (send_step m K c sndX rcvX (by decide) (by decide) 1 5 nX
      (src := (Memref.whole cc0_scratch0 : Memref sig .tc .vmem S256x512 .bf16)) (dst := (Memref.whole cc0_scratch1 : Memref sig .tc .vmem S256x512 .bf16))
      (View.set_whole _) (View.set_whole _) rfl rfl rfl
      (owe2 c) p2 (fs := xOut m c) (ft := xOut m c) (View.write_whole_univ cc0_scratch1 _ (xOut m c)) .rfl
      (by show _ ⊢ pts (peer c) cc0_scratch1 (xOut m (peer (peer c))); rw [peer_peer])) $$ [H0 Hab_pay1 HO HtsX HtrX Hab_pay5]
  · isplitr; · iexact HIsX
    isplitr; · iexact HIpX
    isplitl [H0]; · iexact H0
    isplitl [Hab_pay1]; · iexact Hab_pay1
    isplitl [HO]; · iexact HO
    isplitl [HtsX]; · iexact HtsX
    isplitr; · iexact HrsX
    isplitl [HtrX]; · iexact HtrX
    iexact Hab_pay5
  iintro ⟨HcsX, HO⟩
  sl_exec
  ihave H5 := (landed_whole c cc0_scratch5 f5 _) $$ H5
  sl_exec
  ihave H6 := (landed_whole c cc0_scratch6 f6 _) $$ H6
  sl_exec
  ihave H7 := (stored_whole c cc0_scratch7 _ f7 _) $$ H7
  ihave H8 := (stored_whole c cc0_scratch8 _ f8 _) $$ H8
  ihave H3 := (stored_whole c cc0_scratch3 _ f3 _) $$ H3
  have e7 : k0_pay3 ((Memref.whole cc0_scratch5 : Memref sig .tc .vmem S2x512x1024 .f32).view.readAt (Elt F)
      (Rect.unit (s := S2x512x1024) ![0, 0, 0] S2x512x1024.size inb_S2x512x1024_S2x512x1024_0_0_0).toLoadRect (sound_body.sl.dma0 m c)) = w1Out m c := by
    rw [ld_w1]; rfl
  have e8 : sound_body.sl.r m c = w2Out m c := by
    unfold sound_body.sl.r; rw [ld_w2]; rfl
  have e3 : k0_pay24 (sound_body.sl.r_3 m c) (sound_body.sl.r_4 m c) (sound_body.sl.r_8 m c) (sound_body.sl.r_9 m c)
            (sound_body.sl.r_12 m c) (sound_body.sl.r_13 m c) (sound_body.sl.r_14 m c) (sound_body.sl.r_15 m c)
            (sound_body.sl.r_16 m c) k0_pay23 = gOut m c := by
    have l1 : sound_body.sl.r_1 m c = k0_pay6 (atZero c) (rIn m c) (rIn m (peer c)) (xIn m c) := by
      delta sound_body.sl.r_1; rw [ld_r, ld_p, ld_x]; rfl
    have l2 : sound_body.sl.r_2 m c = k0_pay7 (atZero c) (rIn m c) (rIn m (peer c)) (xIn m c) := by
      delta sound_body.sl.r_2; rw [ld_r, ld_p, ld_x]; rfl
    have l3 : sound_body.sl.r_3 m c = k0_pay8 (atZero c) (rIn m c) (rIn m (peer c)) (xIn m c) := by
      delta sound_body.sl.r_3; rw [ld_r, ld_p, ld_x]; rfl
    have l4 : sound_body.sl.r_4 m c = k0_pay9 (atZero c) (rIn m c) (rIn m (peer c)) (xIn m c) := by
      delta sound_body.sl.r_4; rw [ld_r, ld_p, ld_x]; rfl
    have l5 : sound_body.sl.r_5 m c = k0_pay10 (atZero c) (rIn m c) (rIn m (peer c)) (xIn m c) := by
      delta sound_body.sl.r_5; rw [ld_r, ld_p, ld_x]; rfl
    have l6 : sound_body.sl.r_6 m c = k0_pay12 (atZero c) (rIn m c) (rIn m (peer c)) (xIn m c) := by
      delta sound_body.sl.r_6; rw [ld_r, ld_p, ld_x]; rfl
    unfold gOut gating
    rw [← l1, ← l2, ← l3, ← l4, ← l5, ← l6]
    rfl
  rw [e7, e8, e3]
  simp only [snd2_eq, rcv2_eq]
  iapply (send_step m K c sndG rcvG (by decide) (by decide) 3 7 nG
      (src := (Memref.whole cc0_scratch3 : Memref sig .tc .vmem S256x4 .f32)) (dst := (Memref.whole cc0_scratch4 : Memref sig .tc .vmem S256x4 .f32))
      (View.set_whole _) (View.set_whole _) rfl rfl rfl
      (owe3 c) p3 (fs := gOut m c) (ft := gOut m c) (View.write_whole_univ cc0_scratch4 _ (gOut m c)) .rfl
      (by show _ ⊢ pts (peer c) cc0_scratch4 (gOut m (peer (peer c))); rw [peer_peer])) $$ [H3 Hab_pay3 HO HtsG HtrG Hab_pay7]
  · isplitr; · iexact HIsG
    isplitr; · iexact HIpG
    isplitl [H3]; · iexact H3
    isplitl [Hab_pay3]; · iexact Hab_pay3
    isplitl [HO]; · iexact HO
    isplitl [HtsG]; · iexact HtsG
    isplitr; · iexact HrsG
    isplitl [HtrG]; · iexact HtrG
    iexact Hab_pay7
  iintro ⟨HcsG, HO⟩
  sl_exec
  ihave H9 := (stored_whole c cc0_scratch9 _ f9 _) $$ H9
  have e9 : k0_pay27 (sound_body.sl.r_19 m c) (sound_body.sl.r_20 m c) (sound_body.sl.r_21 m c) (w1At1 m c) (w2At1 m c) = yOut m c := by
    have l19 : sound_body.sl.r_19 m c = xOut m (peer c) := by delta sound_body.sl.r_19; rw [ld_xr]
    have l20 : sound_body.sl.r_20 m c = k0_pay25 (atZero c) (xOut m (peer c)) (gOut m (peer c)) (w1At0 m c) (w2At0 m c) := by
      delta sound_body.sl.r_20; rw [ld_xr, ld_gr]; rfl
    have l21 : sound_body.sl.r_21 m c = k0_pay26 (atZero c) (gOut m (peer c)) := by delta sound_body.sl.r_21; rw [ld_gr]; rfl
    rw [l19, l20, l21]; rfl
  simp only [snd3_eq, rcv3_eq]
  iapply (send_step m K c sndY rcvY (by decide) (by decide) 4 8 nY
      (src := (Memref.whole cc0_scratch9 : Memref sig .tc .vmem S256x512 .bf16)) (dst := (Memref.whole cc0_scratch10 : Memref sig .tc .vmem S256x512 .bf16))
      (View.set_whole _) (View.set_whole _) rfl rfl rfl
      0 p4 (fs := yOut m c) (ft := yOut m c) (View.write_whole_univ cc0_scratch10 _ (yOut m c)) .rfl
      (by show _ ⊢ pts (peer c) cc0_scratch10 (yOut m (peer (peer c))); rw [peer_peer])) $$ [H9 Hab_pay4 HO HtsY HtrY Hab_pay8]
  · isplitr; · iexact HIsY
    isplitr; · iexact HIpY
    isplitl [H9]; · rw [← e9]; iexact H9
    isplitl [Hab_pay4]; · iexact Hab_pay4
    isplitl [HO]; · iexact HO
    isplitl [HtsY]; · iexact HtsY
    isplitr; · iexact HrsY
    isplitl [HtrY]; · iexact HtrY
    iexact Hab_pay8
  iintro ⟨HcsY, HO⟩
  sl_exec
  ihave Ho := (stored_whole c cc0_stg2_0 _ g2 _) $$ Ho
  have e10 : sound_body.sl.r_26 m c = yOwn m c := by
    have l22 : sound_body.sl.r_22 m c = xOut m c := by delta sound_body.sl.r_22; rw [ld_xs]
    have l23 : sound_body.sl.r_23 m c = gOut m c := by delta sound_body.sl.r_23; rw [ld_gs]
    have l24 : sound_body.sl.r_24 m c = k0_pay29 (atZero c) (gOut m c) := by delta sound_body.sl.r_24; rw [ld_gs]; rfl
    delta sound_body.sl.r_26; rw [l22, l23, l24]; rfl
  rw [ld_y, e10]
  -- the nine cells close: their counters at zero are the core's again
  imod (Rounds.cell_close ER (sched m) (Set.mem_univ (K (c, 0))) (fun h => h) (R := 1) (duties_later m (barCell c))) $$ [Hab] with HzB
  · isplitr; · iexact HIb
    iexact Hab
  imod (Rounds.cell_close ER (sched m) (Set.mem_univ (K (c, 1))) (fun h => h) (R := 1) (duties_later m (dCell c sndX))) $$ [HasX] with HzsX
  · isplitr; · iexact HIsX
    iexact HasX
  imod (Rounds.cell_close ER (sched m) (Set.mem_univ (K (c, 2))) (fun h => h) (R := 1) (duties_later m (dCell c sndR))) $$ [HasR] with HzsR
  · isplitr; · iexact HIsR
    iexact HasR
  imod (Rounds.cell_close ER (sched m) (Set.mem_univ (K (c, 3))) (fun h => h) (R := 1) (duties_later m (dCell c sndG))) $$ [HasG] with HzsG
  · isplitr; · iexact HIsG
    iexact HasG
  imod (Rounds.cell_close ER (sched m) (Set.mem_univ (K (c, 4))) (fun h => h) (R := 1) (duties_later m (dCell c sndY))) $$ [HasY] with HzsY
  · isplitr; · iexact HIsY
    iexact HasY
  imod (Rounds.cell_close ER (sched m) (Set.mem_univ (K (c, 5))) (fun h => h) (R := 1) (duties_later m (dCell c rcvX))) $$ [HarX] with HzrX
  · isplitr; · iexact HIrX
    iexact HarX
  imod (Rounds.cell_close ER (sched m) (Set.mem_univ (K (c, 6))) (fun h => h) (R := 1) (duties_later m (dCell c rcvR))) $$ [HarR] with HzrR
  · isplitr; · iexact HIrR
    iexact HarR
  imod (Rounds.cell_close ER (sched m) (Set.mem_univ (K (c, 7))) (fun h => h) (R := 1) (duties_later m (dCell c rcvG))) $$ [HarG] with HzrG
  · isplitr; · iexact HIrG
    iexact HarG
  imod (Rounds.cell_close ER (sched m) (Set.mem_univ (K (c, 8))) (fun h => h) (R := 1) (duties_later m (dCell c rcvY))) $$ [HarY] with HzrY
  · isplitr; · iexact HIrY
    iexact HarY
  sl_step
  iapply HQ
  unfold bodyPost Φ₁ quiet scratch stg
  isplitl [HzB HzsX HzsR HzsG HzsY HzrX HzrR HzrG HzrY Hz0 Hz1 HW1 HW2 HasX_pay1 HarX_pay1 HarR_pay1 HasG_pay1 HarG_pay1 H5 H6 H7 H8 HasY_pay1 HarY_pay1]
  · isplitl [HzB HzsX HzsR HzsG HzsY HzrX HzrR HzrG HzrY Hz0 Hz1]
    · isplitl [HzB]; · iexact HzB
      isplitl [HzsX]; · iexact HzsX
      isplitl [HzsR]; · iexact HzsR
      isplitl [HzsG]; · iexact HzsG
      isplitl [HzsY]; · iexact HzsY
      isplitl [HzrX]; · iexact HzrX
      isplitl [HzrR]; · iexact HzrR
      isplitl [HzrG]; · iexact HzrG
      isplitl [HzrY]; · iexact HzrY
      isplitl [Hz0]; · iexact Hz0
      iexact Hz1
    isplitl [HW1 HW2]
    · isplitl [HW1]; · iexact HW1
      iexact HW2
    isplitl [HasX_pay1]; · iexists _; iexact HasX_pay1
    isplitl [HarX_pay1]; · iexists _; iexact HarX_pay1
    isplitl [HarR_pay1]; · iexists _; iexact HarR_pay1
    isplitl [HasG_pay1]; · iexists _; iexact HasG_pay1
    isplitl [HarG_pay1]; · iexists _; iexact HarG_pay1
    isplitl [H5]; · iexists _; iexact H5
    isplitl [H6]; · iexists _; iexact H6
    isplitl [H7]; · iexists _; iexact H7
    isplitl [H8]; · iexists _; iexact H8
    isplitl [HasY_pay1]; · iexists _; iexact HasY_pay1
    iexists _; iexact HarY_pay1
  isplitl [HO]
  · iapply (owes_end m c); iexact HO
  isplitl [Hx]; · iexists _; isplitr; · ipureintro; rfl
                  iexact Hx
  isplitl [HasR_pay1]; · iexists _; isplitr; · ipureintro; rfl
                         iexact HasR_pay1
  iexists _; isplitr; · ipureintro; rfl
  iexact Ho

/-- The library's body obligation on device `c`. -/
theorem body_obligation (c : Dev nD) : BodyObligation (dats (F := F) m 0 c) (defs₀ (F := F)) 𝒱₀ () Set.univ := fun t => by
  rw [fin_t₀ t]
  rw [bigSep_W0, bigSep_W0]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _)
            (Memref.whole main_arg2) (Memref.isWhole_whole _) (Memref.whole main_arg3) (Memref.isWhole_whole _)
            (Memref.whole cc0_stg2_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _) cc0_scratch11 cc0_scratch12 cc0_scratch13) (fun _ => bodyPost m c)
  unfold bodyPre Φ₀ start Dat.owesAt Pipeline.owesWithin
  iintro ⟨⟨⟨⟨%K, Hg⟩, Hc, Hl, HW1, HW2⟩, Hscr⟩, ⟨%W, %hW, HO⟩, ⟨%d0, %f0, %e0, Hx⟩, ⟨%d1, %f1, %e1, Hr⟩, ⟨%d2, %f2, %e2, Ho⟩⟩
  have b0 : (dats m 0 c).before (0 : Fin 3) t₀ d0 = xIn m c := by unfold Dat.before; rw [if_pos (fetch0_0 _)]; rfl
  have b1 : (dats m 0 c).before (1 : Fin 3) t₀ d1 = rIn m c := by unfold Dat.before; rw [if_pos (fetch0_1 _)]; rfl
  rw [b0] at e0
  rw [b1] at e1
  subst e0 e1
  iapply (sound_body m K c W f2 fun _ => bodyPost m c)
  isplitl [Hg Hc Hl HW1 HW2]
  · isplitl [Hg]; · iexact Hg
    isplitl [Hc]; · iexact Hc
    isplitl [Hl]; · iexact Hl
    isplitl [HW1]; · iexact HW1
    iexact HW2
  isplitl [Hscr]; · iexact Hscr
  isplitl [HO]; · iexact HO
  isplitl [Hx]; · iexact Hx
  isplitl [Hr]; · iexact Hr
  isplitl [Ho]; · iexact Ho
  iintro H; iexact H

end Cert.Exchange

end
-- ==== Proof.Run.lean ====
/-
# The exchange: the launch and the run

Every device is dealt its nine cells, the records of the five cells it pays at its peer, and the tokens of the nine
duties it pays; then the pipeline's launch theorem runs the bodies. The end of the run: every device's result array at
`outAt`, the arguments as they were, every semaphore counter at zero.
-/
module

public import proofs.«01_k».proof.Proof.Body
public import Idealize.ShloMosaic.Lib.Pipeline.CollectiveSegs

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and tokens as minted -/

/-- The kernel's own semaphores: the local copies', the departures', the arrivals'. -/
abbrev osem : Fin 10 → SemLoc sig := fun
  | 0 => .dma locS0 | 1 => .dma locS1
  | 2 => .dma sndX | 3 => .dma sndR | 4 => .dma sndG | 5 => .dma sndY
  | 6 => .dma rcvX | 7 => .dma rcvR | 8 => .dma rcvG | 9 => .dma rcvY

/-- The kernel's own semaphores are scoped and are none of the windows'. -/
theorem ownSemFacts : Pipeline.OwnSemFacts cfg0.spec osem := by decide

/-- Every window's array is held whole. -/
theorem share_eq (c : Dev nD) (w : Fin cfg0.W) : (dats m 0 c).share w = fullShare := by unfold Dat.share; split <;> rfl

/-- The nine cells of a device are different semaphores. -/
theorem csem_injective : Function.Injective csem := by
  intro k k' h
  fin_cases k <;> fin_cases k' <;> first | rfl | exact absurd h (by decide)

/-- Different devices or indices name different cells. -/
theorem kcell_injective : Function.Injective (kcell : Dev nD × Fin 9 → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]

/-- All the cells of the exchange. -/
def allCells : Finset (GSem nD τ sig) := Finset.univ.map ⟨kcell, kcell_injective⟩

/-- The duty token of a cell's one round. -/
abbrev tokOf (ck : Dev nD × Fin 9) : GSem nD τ sig × ℕ × Unit := (kcell ck, 0, ())
/-- Different cells have different tokens. -/
theorem tokOf_injective : Function.Injective tokOf := fun a b h => kcell_injective (congrArg Prod.fst h)
/-- All the duty tokens. -/
def allToks : Finset (GSem nD τ sig × ℕ × Unit) := Finset.univ.map ⟨tokOf, tokOf_injective⟩

/-- The launch element: the pipeline's part, the exchange's, no counters. -/
def u₀ : UU :=
  (initOf (Pipeline.cells cfgs cellOf_inj) (Pipeline.launchToks cfgs cellOf_inj), (initOf allCells allToks, 1))

/-- The duty tokens of device `c`'s own cells. -/
def toks (c : Dev nD) : sProp 𝕄 := bigSep Finset.univ fun k : Fin 9 => dutyTok ER (kcell (c, k)) 0 ()

/-- What the launch element deals device `c`. -/
def G (c : Dev nD) : sProp 𝕄 :=
  iprop((bigSep Finset.univ fun k : Fin 9 => roundState ER (sched m) (kcell (c, k)) 0)
    ∗ (bigSep Finset.univ fun k : Fin 9 => iprop(atPos ER (kcell (c, k)) 0 ∅ 0 ∗ reached ER (kcell (c, k)) 0)) ∗ toks c)

/-- What the global step makes of it. -/
def G' (c : Dev nD) : sProp 𝕄 := iprop(∃ K, ghost m K c)

/-- A separating conjunction over the nine cells, listed. -/
theorem bigSep_nine (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The exchange's part of the launch element, dealt device by device. -/
theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 9 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The local copies' semaphores at zero. -/
def locals (c : Dev nD) : sProp 𝕄 := iprop(semVal (dCell c locS0) 0 ∗ semVal (dCell c locS1) 0)

/-- The kernel's own semaphores at zero, one by one. -/
theorem ownSems0_eq (c : Dev nD) : (Pipeline.ownSems0 (Ix := Unit) (Name := ℕ) (U := UU) (Lvl := ℕ) (Val := Elt F) (τ := τ) osem c : sProp 𝕄)
    = iprop(semVal (dCell c locS0) 0 ∗ semVal (dCell c locS1) 0
      ∗ semVal (dCell c sndX) 0 ∗ semVal (dCell c sndR) 0 ∗ semVal (dCell c sndG) 0 ∗ semVal (dCell c sndY) 0
      ∗ semVal (dCell c rcvX) 0 ∗ semVal (dCell c rcvR) 0 ∗ semVal (dCell c rcvG) 0 ∗ semVal (dCell c rcvY) 0) := by
  rw [Pipeline.ownSems0_eq_of_list c osem [0, 1, 2, 3, 4, 5, 6, 7, 8, 9] (by decide) (by decide)]; rfl

/-- The runtime's barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The semaphores at launch: the nine cells' and the local copies'. -/
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 9 => semVal (kcell (c, k)) 0 : sProp 𝕄) ∗ locals c) := by
  rw [ownSems0_eq, unscopedSems0_eq, bigSep_nine]
  unfold locals
  iintro ⟨⟨H0, H1, H2, H3, H4, H5, H6, H7, H8, H9⟩, HB⟩
  isplitr [H0 H1]
  · isplitl [HB]; · iexact HB
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H0]; · iexact H0
  iexact H1

/-- What a device has once its cells' invariants are allocated. -/
def dealt (c : Dev nD) : sProp 𝕄 :=
  iprop((bigSep Finset.univ fun k => iprop(∃ κ : ℕ, cellInv ER (sched m) κ (kcell (c, k))))
    ∗ (bigSep Finset.univ fun k => iprop(atPos ER (kcell (c, k)) 0 ∅ 0 ∗ reached ER (kcell (c, k)) 0)) ∗ toks c ∗ locals c)

/-- The cells of one device are set up. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> dealt m c := by
  unfold G dealt
  iintro ⟨Hos, Hus, Hst, Hat, Htok⟩
  ihave Hv := (sems0_eq (F := F) c) $$ [Hos Hus]
  · isplitl [Hos] <;> iassumption
  icases Hv with ⟨Hv, Hl⟩
  imod (show iprop((bigSep Finset.univ fun k : Fin 9 => semVal (kcell (c, k)) 0) ∗ bigSep Finset.univ fun k : Fin 9 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-! ## The global step -/

/-- Every cell's invariant and mark. -/
def records (K : Dev nD × Fin 9 → ℕ) : sProp 𝕄 :=
  iprop((bigSep Finset.univ fun ck : Dev nD × Fin 9 => cellInv ER (sched m) (K ck) (kcell ck))
    ∗ bigSep Finset.univ fun ck : Dev nD × Fin 9 => reached ER (kcell ck) 0)

/-- The record of all cells can be used again. -/
instance records_persistent (K : Dev nD × Fin 9 → ℕ) : BI.Persistent (records m K) := by unfold records; infer_instance

/-- The record holds each cell's invariant. -/
theorem inv_at (K : Dev nD × Fin 9 → ℕ) (ck : Dev nD × Fin 9) : records m K ⊢ cellInv ER (sched m) (K ck) (kcell ck) :=
  (BI.Entails.trans BI.sep_and BI.and_elimL).trans (bigSep_elim (Finset.mem_univ ck))
/-- The record holds each cell's mark. -/
theorem mark_at (K : Dev nD × Fin 9 → ℕ) (ck : Dev nD × Fin 9) : records m K ⊢ reached ER (kcell ck) 0 :=
  (BI.Entails.trans BI.sep_and BI.and_elimR).trans (bigSep_elim (Finset.mem_univ ck))

/-- The invariants device `c` opens are among the records; -/
theorem invs_intro (K : Dev nD × Fin 9 → ℕ) (c : Dev nD) : records m K ⊢ invs m K c := by
  unfold invs
  iintro #H
  isplitr; · iapply (inv_at m K (c, 0)); iexact H
  isplitr; · iapply (inv_at m K (c, 1)); iexact H
  isplitr; · iapply (inv_at m K (c, 2)); iexact H
  isplitr; · iapply (inv_at m K (c, 3)); iexact H
  isplitr; · iapply (inv_at m K (c, 4)); iexact H
  isplitr; · iapply (inv_at m K (c, 5)); iexact H
  isplitr; · iapply (inv_at m K (c, 6)); iexact H
  isplitr; · iapply (inv_at m K (c, 7)); iexact H
  isplitr; · iapply (inv_at m K (c, 8)); iexact H
  isplitr; · iapply (inv_at m K (peer c, 0)); iexact H
  isplitr; · iapply (inv_at m K (peer c, 5)); iexact H
  isplitr; · iapply (inv_at m K (peer c, 6)); iexact H
  isplitr; · iapply (inv_at m K (peer c, 7)); iexact H
  iapply (inv_at m K (peer c, 8)); iexact H
/-- so are the marks it needs. -/
theorem marks_intro (K : Dev nD × Fin 9 → ℕ) (c : Dev nD) : records m K ⊢ marks c := by
  unfold marks
  iintro #H
  isplitr; · iapply (mark_at m K (peer c, 0)); iexact H
  isplitr; · iapply (mark_at m K (c, 1)); iexact H
  isplitr; · iapply (mark_at m K (c, 2)); iexact H
  isplitr; · iapply (mark_at m K (c, 3)); iexact H
  isplitr; · iapply (mark_at m K (c, 4)); iexact H
  isplitr; · iapply (mark_at m K (c, 5)); iexact H
  isplitr; · iapply (mark_at m K (c, 6)); iexact H
  isplitr; · iapply (mark_at m K (c, 7)); iexact H
  iapply (mark_at m K (c, 8)); iexact H

/-- What stays with device `c`. -/
def linear (c : Dev nD) : sProp 𝕄 := iprop(places c ∗ payToks c ∗ locals c)

/-- The record and a device's own tokens are what its run starts from. -/
theorem ghost_intro (K : Dev nD × Fin 9 → ℕ) (c : Dev nD) : iprop(records m K ∗ linear c) ⊢ G' m c := by
  unfold linear locals G' ghost
  iintro ⟨#HR, Hp, Ht, H0, H1⟩
  iexists K
  isplitr; · iapply (invs_intro m K c); iexact HR
  isplitr; · iapply (marks_intro m K c); iexact HR
  isplitl [Hp]; · iexact Hp
  isplitl [Ht]; · iexact Ht
  isplitl [H0]; · iexact H0
  iexact H1

/-- The tokens dealt across the pairs: those of the barriers and the arrivals go to the peer. -/
theorem toks_across : (bigSep Finset.univ fun c : Dev nD => (toks c : sProp 𝕄)) ⊢ bigSep Finset.univ fun c : Dev nD => payToks c := by
  have hs (k : Fin 9) := bigSep_univ_equiv swap (fun c : Dev nD => (dutyTok ER (kcell (c, k)) 0 () : sProp 𝕄))
  rw [show (fun c : Dev nD => (toks c : sProp 𝕄)) = fun c => iprop(dutyTok ER (kcell (c, 0)) 0 () ∗ dutyTok ER (kcell (c, 1)) 0 ()
      ∗ dutyTok ER (kcell (c, 2)) 0 () ∗ dutyTok ER (kcell (c, 3)) 0 () ∗ dutyTok ER (kcell (c, 4)) 0 () ∗ dutyTok ER (kcell (c, 5)) 0 ()
      ∗ dutyTok ER (kcell (c, 6)) 0 () ∗ dutyTok ER (kcell (c, 7)) 0 () ∗ dutyTok ER (kcell (c, 8)) 0 ()) from
    funext fun c => by unfold toks; rw [bigSep_nine]]
  unfold payToks
  simp only [bigSep_sep']
  rw [hs 0, hs 5, hs 6, hs 7, hs 8]
  exact .rfl

/-- A reusable resource goes to every member of a family. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's places, listed. -/
theorem places_eq : (bigSep Finset.univ fun c : Dev nD => bigSep Finset.univ fun k : Fin 9 => (atPos ER (kcell (c, k)) 0 ∅ 0 : sProp 𝕄))
    = bigSep Finset.univ fun c : Dev nD => places c :=
  bigSep_congr fun c _ => by rw [bigSep_nine]; rfl

/-- The tokens dealt out by cell are those dealt out by device. -/
theorem regroup : (bigSep Finset.univ (dealt m) : sProp 𝕄) ⊢ bigSep Finset.univ (G' m) := by
  rw [show dealt m = fun c => _ from funext fun c => rfl]
  unfold dealt
  rw [bigSep_sep', bigSep_sep', bigSep_sep', ← bigSep_univ_prod (fun ck : Dev nD × Fin 9 => iprop(∃ κ : ℕ, cellInv ER (sched m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok, Hl⟩
  ihave HK := (BI.bigSep_exists_pi Finset.univ (fun (ck : Dev nD × Fin 9) (κ : ℕ) => (cellInv ER (sched m) κ (kcell ck) : sProp 𝕄))) $$ HI
  icases HK with ⟨%K, #HI⟩
  ihave Htk := (toks_across (F := F)) $$ Htok
  iapply (bigSep_with_persistent (R := records m K) fun c _ => ghost_intro m K c)
  isplitr
  · unfold records; isplitl; · iexact HI
    iexact HR
  · unfold linear
    simp only [bigSep_sep']
    isplitl [Hat]
    · iapply (Entails.of_eq (places_eq (F := F)))
      iexact Hat
    isplitl [Htk]; · iexact Htk
    iexact Hl

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- A debt at a semaphore of the peer, read at a semaphore of a device. -/
theorem tally_peer (d c : Dev nD) (s s' : SemLoc sig) (n : ℕ) :
    tallyAt (((peer d : Dev nD) : Thread nD τ), s) () n ((c : Thread nD τ), s') () = if s' = s then (if d = peer c then n else 0) else 0 := by
  rw [tallyAt_apply]
  by_cases hs : s' = s
  · subst hs
    rw [if_pos rfl]
    by_cases hd : d = peer c
    · subst hd; rw [peer_peer, if_pos ⟨rfl, rfl⟩, if_pos rfl]
    · rw [if_neg hd, if_neg]
      rintro ⟨h, -⟩
      have h1 : c = peer d := by have := congrArg (fun g : GSem nD τ sig => g.1.1) h; exact this
      exact hd (by rw [h1, peer_peer])
  · rw [if_neg hs, if_neg]
    rintro ⟨h, -⟩
    exact hs (congrArg Prod.snd h)

/-- What is owed at a semaphore. -/
def due (s : SemLoc sig) : ℕ :=
  (((if s = .dma rcvY then nY else 0) + (if s = .dma rcvG then nG else 0)) + (if s = .dma rcvX then nX else 0))
    + (if s = .dma rcvR then nR else 0) + (if s = .reg barS then 1 else 0)

/-- A device owes to its peer's cells and to no others. -/
theorem owed_at (d c : Dev nD) (s : SemLoc sig) : oweL d ((c : Thread nD τ), s) () = if d = peer c then due s else 0 := by
  unfold oweL owe0 owe1 owe2 owe3 due
  simp only [Pi.add_apply, Finsupp.add_apply, tally_peer]
  by_cases h : d = peer c
  · simp only [if_pos h]
  · simp only [if_neg h, ite_self]

/-- What all devices owe a cell is what its owner's peer does. -/
theorem launch_at (c : Dev nD) (s : SemLoc sig) :
    tallyOn ((c : Thread nD τ), s) (launchCredit (Pipeline.owing oweL) 0 ((c : Thread nD τ), s))
      = (tallyAt ((c : Thread nD τ), s) () (due s) : CellTallies nD τ sig Unit) := by
  unfold tallyAt; refine congrArg _ (Finsupp.ext fun u => ?_); cases u
  rw [Pipeline.launchCredit_owing, Finsupp.single_eq_same, Finset.sum_congr rfl fun d _ => owed_at d c s,
    Finset.sum_ite_eq' Finset.univ (peer c) fun _ => due s, if_pos (Finset.mem_univ _)]

/-- One unit is due at the barrier. -/
theorem due_bar : due (.reg barS) = 1 := by unfold due; simp
/-- The tokens' units are due. -/
theorem due_X : due (.dma rcvX) = nX := by unfold due; simp
/-- The router columns' units are due. -/
theorem due_R : due (.dma rcvR) = nR := by unfold due; simp
/-- The gating weights' units are due. -/
theorem due_G : due (.dma rcvG) = nG := by unfold due; simp
/-- The units of the peer's part are due. -/
theorem due_Y : due (.dma rcvY) = nY := by unfold due; simp

/-- The launch's credits include those of a device's five awaited cells. -/
theorem creds (c : Dev nD) : (Pipeline.launchCred oweL c : sProp 𝕄) ⊢ credits c := by
  unfold Pipeline.launchCred credits
  simp only [launch_at]
  refine (bigSep_subset (t := {SemLoc.reg barS, .dma rcvX, .dma rcvR, .dma rcvG, .dma rcvY}) (Finset.subset_univ _)).trans ?_
  rw [bigSep_eq_bigSepL_of_eq [SemLoc.reg barS, .dma rcvX, .dma rcvR, .dma rcvG, .dma rcvY] (by decide) (by decide)]
  show iprop(cred (tallyAt (barCell c) () (due (.reg barS))) ∗ cred (tallyAt (dCell c rcvX) () (due (.dma rcvX)))
    ∗ cred (tallyAt (dCell c rcvR) () (due (.dma rcvR))) ∗ cred (tallyAt (dCell c rcvG) () (due (.dma rcvG)))
    ∗ cred (tallyAt (dCell c rcvY) () (due (.dma rcvY)))) ⊢ _
  rw [due_bar, due_X, due_R, due_G, due_Y]

/-! ## The launch theorem's side conditions -/

/-- The scoped buffers of the kernel are its scratch buffers. -/
theorem scratch_eq (c : Dev nD) : (Pipeline.scopedRest cfg0.spec c : sProp 𝕄) = scratch c := (scopedRest0_eq c).trans rfl

/-- The unscoped buffers that are no window's array are the two weights. -/
theorem unscoped_eq (c : Dev nD) :
    (Pipeline.unscopedRestP Pipeline.Prefetch.none cfg0.spec c (fun b => m ((c : Thread nD τ).loc b)) : sProp 𝕄)
      = iprop(pts c main_arg2 (m ((c : Thread nD τ).loc main_arg2)) ∗ pts c main_arg3 (m ((c : Thread nD τ).loc main_arg3))) :=
  Pipeline.unscopedRestP_eq_of_list (win := spec0) (c := c) Pipeline.Prefetch.none (fun b => m ((c : Thread nD τ).loc b)) [main_arg2, main_arg3] (by decide) (by decide)

/-- What the launch gives a device is what its run starts from. -/
theorem start_intro (ρ : Dev nD → PrngReg) (c : Dev nD) :
    iprop(Pipeline.unscopedRestP Pipeline.Prefetch.none cfg0.spec c (fun b => m ((c : Thread nD τ).loc b)) ∗ levAts L lv
        ∗ Pipeline.launchCred oweL c ∗ prngReg c (ρ c) ∗ G' m c)
      ⊢ |={Set.univ}=> iprop(start m c ∗ emp) := by
  rw [unscoped_eq]
  iintro ⟨⟨HW1, HW2⟩, Hlev, Hcr, -, HG⟩
  ihave Hc := (creds (F := F) c) $$ Hcr
  imodintro
  unfold start G'
  isplitl
  · isplitl [HG]; · iexact HG
    isplitl [Hc]; · iexact Hc
    isplitl [Hlev]; · iexact Hlev
    isplitl [HW1]; · iexact HW1
    iexact HW2
  · iempintro

/-- With the scratch buffers that is the state before the grid point. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs]; · iexact Hs
  iexact Hr

/-- What a device's run leaves unscoped: the barrier at zero and the weights. -/
def leaves (c : Dev nD) : sProp 𝕄 :=
  iprop(unscopedSems0 c ∗ pts c main_arg2 (m ((c : Thread nD τ).loc main_arg2)) ∗ pts c main_arg3 (m ((c : Thread nD τ).loc main_arg3)))

/-- The state after the grid point gives back every semaphore and buffer. -/
theorem phi1_exit (c : Dev nD) :
    (dats m 0 c).Φ (Fin.last cfg0.N) ⊢ iprop(leaves m c ∗ Pipeline.ownSems0 osem c ∗ Pipeline.scopedRest cfg0.spec c) := by
  rw [show (dats m 0 c).Φ (Fin.last cfg0.N) = Φ₁ m c from rfl, scratch_eq, ownSems0_eq]
  unfold Φ₁ quiet leaves
  rw [unscopedSems0_eq]
  iintro ⟨⟨HB, H2, H3, H4, H5, H6, H7, H8, H9, H0, H1⟩, ⟨HW1, HW2⟩, Hscr⟩
  isplitl [HB HW1 HW2]
  · isplitl [HB]; · iexact HB
    isplitl [HW1]; · iexact HW1
    iexact HW2
  isplitr [Hscr]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexact Hscr

/-- The pipeline's own waits are below everything owed. -/
theorem waits (c : Dev nD) : (levAts L lv : sProp 𝕄) ⊢ Pipeline.cellsWaits cfgs (dats m) () 0 c :=
  Pipeline.cellsWaits_intro cfgs (dats m) () 0 c fun w s t => by
    refine mayWait c _ 0 _ ?_ (by fin_cases w <;> fin_cases s <;> exact Nat.le_refl 0)
    rcases t with ⟨_ | _, ht⟩
    · exact aboveL c
    · exact fun g u h => absurd h (Nat.lt_irrefl 0)

/-! ## The run -/

/-- What is read of the final state beside the windows' arrays. -/
def Rest (c : Dev nD) (s : MemSt nD τ sig (Elt F)) : Prop :=
  (∀ sm : SemLoc sig, sm.isScoped .tc = false → s.sem ((c : Thread nD τ), sm) = 0)
    ∧ s.mem ((c : Thread nD τ).loc main_arg2) = m ((c : Thread nD τ).loc main_arg2)
    ∧ s.mem ((c : Thread nD τ).loc main_arg3) = m ((c : Thread nD τ).loc main_arg3)

/-- The final state is read. -/
theorem rest_read (c : Dev nD) (s' : Phys nD τ sig (Elt F)) :
    iprop(leaves m c ∗ emp ∗ SI s') ⊢ (|={Set.univ}=> iprop(⌜Rest m c s'.mem⌝ ∗ SI s') : sProp 𝕄) := by
  unfold leaves
  iintro ⟨⟨Hu, HW1, HW2⟩, -, HSI⟩
  imod (Pipeline.unscopedSems0_read (X := unscopedSems0 c) (c := c) fupd_intro s') $$ [Hu HSI] with ⟨%h0, HSI⟩
  · isplitl [Hu] <;> iassumption
  ihave %h1 := (SI_pointsTo_agree (st := s')) $$ [HSI HW1]
  · isplitl [HSI] <;> iassumption
  ihave %h2 := (SI_pointsTo_agree (st := s')) $$ [HSI HW2]
  · isplitl [HSI] <;> iassumption
  imodintro
  isplitr
  · ipureintro
    exact ⟨h0, funext fun i => h1 i (Finset.mem_univ _), funext fun i => h2 i (Finset.mem_univ _)⟩
  iexact HSI

/-- The end of the run: each window's array as the pipeline's data says, the rest as read, the counters at zero. -/
def After (r : PUnit × MemSt nD τ sig (Elt F)) : Prop :=
  (∀ c : Dev nD, (∀ w : Fin cfg0.W, r.2.mem ((cfg0.win w).arr.view.loc (c : Thread nD τ)) = (dats m 0 c).arrAt w cfg0.N) ∧ Rest m c r.2)
    ∧ r.2.sem = fun _ => 0

/-- From any memory with zero counters, every weakly fair execution terminates, in a state described by `After`. -/
theorem run_main (ρ : Dev nD → PrngReg) : θ_run defs (onTc (τ := τ) (main (F := F))) ⟨m, fun _ => 0, ρ⟩ (After m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := oweL) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H' := (own_pair_emb embR _ _) $$ HX
      icases H' with ⟨HE, -⟩
      imod (fund_cells m) $$ HE with HG
      imodintro
      isplitl [HP] <;> iassumption)
    (hglob := glob m)
    (hA := fun _ _ => rfl) (hpf := fun _ k => k.elim0)
    (X := start m) (Y := leaves m) (Z := fun _ => iprop(emp))
    (hX := start_intro m ρ) (hin := phi0_intro m) (hout := phi1_exit m)
    (QY := Rest m)
    (hY := rest_read m)
    (hQ := fun _ h hs => ⟨fun c => ⟨(h c).1, (h c).2.2⟩, sem_eq_zero hs fun c => (h c).2.2.1⟩)

end Cert.Exchange

end
-- ==== Proof.Top2.lean ====
/-
# The two greatest of four

The kernel finds the two greatest of a token's four gates by counting, for each gate, the gates that beat it. The
reference sorts. This module shows that both pick the same two experts, in the same order, and that the weights and the
weighted sums built on the choice are equal, for any four finite extended reals.
-/
module

public import Idealize.ShloMosaic.Lib.Pointwise
public import Idealize.ShloMosaic.Lib.SortFacts

@[expose] public section

noncomputable section

namespace Cert.Gates

open Idealize.ShloMosaic

/-- Whether gate `j` is put before gate `e`: the greater first, and of two equal the one with the smaller index. -/
def beats (g : Fin 4 → EReal) (j e : Fin 4) : Bool := if j < e then decide (g e ≤ g j) else decide (g e < g j)

/-- The number of gates put before gate `e`. -/
def place (g : Fin 4 → EReal) (e : Fin 4) : Nat := ((Finset.univ.filter fun j => j ≠ e ∧ beats g j e = true)).card

/-- The ideal comparison is the order's. -/
theorem gt_eq (a b : EReal) : (Ideal.cmp .ogt a b == 1#1) = decide (b < a) := by
  by_cases h : b < a <;> simp [Ideal.cmp, h]

/-- The order in which the reference's sort puts the gates: the expert at place `k`. -/
def picked (g : Fin 4 → EReal) (k : Fin 4) : Fin 4 := sortedFrom (fun j e => Ideal.cmp .ogt (g j) (g e) == 1#1) k

/-- An order's answers on four positions, from the six about a later and an earlier position. -/
def answers (p q r s t u : Bool) (j e : Fin 4) : Bool :=
  (![![false, !p, !q, !r], ![p, false, !s, !t], ![q, s, false, !u], ![r, t, u, false]] : Fin 4 → Fin 4 → Bool) j e

/-- The sixty-four possible answers, those of an order among them, checked one by one. -/
theorem answers_sorted : ∀ p q r s t u : Bool,
    (∀ i j k : Fin 4, answers p q r s t u i j = true → answers p q r s t u j k = true → i ≠ k → answers p q r s t u i k = true) →
    ∀ k e : Fin 4, sortedFrom (answers p q r s t u) k = e
      ↔ (Finset.univ.filter fun j => answers p q r s t u j e = true).card = k.val := by
  decide +kernel

/-- The stable sort of positions in their order asks, of two positions, only whether the later is before the earlier. -/
theorem stableSort_later {n : Nat} (B T : Fin n → Fin n → Bool) (h : ∀ j e, e < j → B j e = T j e) (l : List (Fin n))
    (hl : l.Pairwise (· < ·)) : stableSort B l = stableSort T l := by
  induction l with
  | nil => rfl
  | cons a l ih =>
    rw [List.pairwise_cons] at hl
    unfold stableSort
    rw [ih hl.2]
    exact insertBefore_congr B T a _ fun b hb => h b a (hl.1 b ((perm_stableSort T l).mem_iff.mp hb))

/-- So two orders with the same answers about a later and an earlier position sort alike. -/
theorem sortedFrom_later {n : Nat} (B T : Fin n → Fin n → Bool) (h : ∀ j e, e < j → B j e = T j e) : sortedFrom B = sortedFrom T := by
  have hs : sortPositions n B = sortPositions n T := stableSort_later B T h _ (List.pairwise_lt_finRange n)
  funext k
  unfold sortedFrom
  rw [List.get_of_eq hs]
  rfl

/-- The answers a gate's order gives. -/
theorem beats_eq (g : Fin 4 → EReal) (j e : Fin 4) (h : j ≠ e) :
    beats g j e = answers (beats g 1 0) (beats g 2 0) (beats g 3 0) (beats g 2 1) (beats g 3 1) (beats g 3 2) j e := by
  revert h
  fin_cases j <;> fin_cases e <;> intro h <;> first | exact absurd rfl h | rfl | skip
  all_goals
    simp only [beats, answers]
    simp [-decide_not, ← decide_not]

/-- The expert at place `k` is the one that `k` others are put before. -/
theorem picked_iff (g : Fin 4 → EReal) (k e : Fin 4) : picked g k = e ↔ place g e = k.val := by
  have hp : picked g = sortedFrom (answers (beats g 1 0) (beats g 2 0) (beats g 3 0) (beats g 2 1) (beats g 3 1) (beats g 3 2)) :=
    sortedFrom_later _ _ fun j e h => by
      rw [← beats_eq g j e (ne_of_gt h)]
      simp [beats, not_lt_of_gt h, gt_eq]
  have hc : place g e = (Finset.univ.filter fun j => answers (beats g 1 0) (beats g 2 0) (beats g 3 0) (beats g 2 1) (beats g 3 1)
      (beats g 3 2) j e = true).card := by
    unfold place
    congr 1
    ext j
    simp only [Finset.mem_filter, Finset.mem_univ, true_and]
    by_cases h : j = e
    · subst h
      fin_cases j <;> simp [answers]
    · rw [← beats_eq g j e h]
      simp [h]
  rw [hp, hc]
  refine answers_sorted _ _ _ _ _ _ (fun i j k hij hjk hik => ?_) k e
  have ne : ∀ i j : Fin 4, answers (beats g 1 0) (beats g 2 0) (beats g 3 0) (beats g 2 1) (beats g 3 1) (beats g 3 2) i j = true → i ≠ j := by
    intro i j h hi
    subst hi
    revert h
    fin_cases i <;> simp [answers]
  rw [← beats_eq g _ _ (ne _ _ hij)] at hij
  rw [← beats_eq g _ _ (ne _ _ hjk)] at hjk
  rw [← beats_eq g _ _ hik]
  unfold beats at *
  split at hij <;> split at hjk <;> split <;> simp only [decide_eq_true_eq] at * <;> first
    | exact hjk.trans hij
    | exact lt_of_lt_of_le hjk hij
    | exact lt_of_le_of_lt hjk hij
    | exact (lt_of_lt_of_le hjk hij).le
    | exact (lt_of_le_of_lt hjk hij).le
    | exact (hjk.trans hij).le
    | (exfalso; omega)

/-! ## The kernel's weights -/

/-- A comparison's answer as the float the kernel adds up. -/
def one (p : Bool) : EReal := FloatOps.sitofp (F := Ideal) .f32 (BitVec.setWidth 32 (BitVec.ofBool p))

/-- `one` is a truth value as a number. -/
theorem one_eq (p : Bool) : one p = ((p.toNat : ℝ) : EReal) := by
  cases p <;> simp [one, FloatOps.sitofp] <;> rfl

/-- The kernel's count of the gates put before gate `e`. -/
def count (g : Fin 4 → EReal) : Fin 4 → EReal :=
  ![one (beats g 1 0) + one (beats g 2 0) + one (beats g 3 0), one (beats g 0 1) + one (beats g 2 1) + one (beats g 3 1),
    one (beats g 0 2) + one (beats g 1 2) + one (beats g 3 2), one (beats g 0 3) + one (beats g 1 3) + one (beats g 2 3)]

/-- The count is the expert's place. -/
theorem count_eq (g : Fin 4 → EReal) (e : Fin 4) : count g e = ((place g e : ℝ) : EReal) := by
  have hp : place g e = ∑ j, if j ≠ e ∧ beats g j e = true then 1 else 0 := by
    unfold place
    rw [Finset.card_filter]
  rw [hp, Fin.sum_univ_four]
  fin_cases e <;> simp [count, one_eq] <;> rw [← EReal.coe_add, ← EReal.coe_add] <;> congr 1 <;>
    simp only [Bool.toNat, Bool.cond_eq_ite] <;> push_cast <;> split_ifs <;> norm_num

/-- The sum of the gates whose count is `v`. -/
def atCount (g : Fin 4 → EReal) (v : EReal) : EReal :=
  (if count g 0 = v then g 0 else 0) + (if count g 1 = v then g 1 else 0) + (if count g 2 = v then g 2 else 0)
    + (if count g 3 = v then g 3 else 0)

/-- The kernel's gating weight of expert `e`. -/
def weight (g : Fin 4 → EReal) (e : Fin 4) : EReal :=
  if count g e < 2 then Ideal.div (Ideal.exp (g e - atCount g 0)) (1 + Ideal.exp (atCount g 1 - atCount g 0)) else 0

/-- An entry's count says which pick it is. -/
theorem count_eq_iff (g : Fin 4 → EReal) (k e : Fin 4) : count g e = ((k.val : ℝ) : EReal) ↔ picked g k = e := by
  rw [count_eq, picked_iff, EReal.coe_eq_coe_iff, Nat.cast_inj]

/-- The gate counted `k` is the one at place `k`. -/
theorem atCount_eq (g : Fin 4 → EReal) (k : Fin 4) : atCount g ((k.val : ℝ) : EReal) = g (picked g k) := by
  simp only [atCount, count_eq_iff]
  generalize picked g k = e
  fin_cases e <;> simp

/-- The value at count 0 is the first pick's. -/
theorem first_eq (g : Fin 4 → EReal) : atCount g 0 = g (picked g 0) := by simpa using atCount_eq g 0
/-- The value at count 1 is the second pick's. -/
theorem second_eq (g : Fin 4 → EReal) : atCount g 1 = g (picked g 1) := by simpa using atCount_eq g 1

/-- The gates counted below two are the two picked. -/
theorem count_lt (g : Fin 4 → EReal) (e : Fin 4) : count g e < 2 ↔ picked g 0 = e ∨ picked g 1 = e := by
  rw [picked_iff, picked_iff, count_eq, show (2 : EReal) = ((2 : ℝ) : EReal) from rfl, EReal.coe_lt_coe_iff]
  rw [show (2 : ℝ) = ((2 : ℕ) : ℝ) by norm_num, Nat.cast_lt]
  simp only [Fin.val_zero, Fin.val_one]
  omega

/-! ## The reference's weights -/

/-- The reference's two picked gates. -/
def value (g : Fin 4 → EReal) (k : Fin 2) : EReal := g (picked g ⟨k.val, by omega⟩)

/-- The reference's weight of its `k`-th pick. -/
def refWeight (g : Fin 4 → EReal) (k : Fin 2) : EReal :=
  Ideal.div (Ideal.exp (value g k - Finset.fold max ⊥ (value g) Finset.univ))
    (∑ x, Ideal.exp (value g x - Finset.fold max ⊥ (value g) Finset.univ))

/-- The first pick is no smaller than the second. -/
theorem value_le (g : Fin 4 → EReal) : value g 1 ≤ value g 0 := by
  have h := sortedFrom_noInversion (fun j e => decide (g e < g j)) (fun j e => decide (g e < g j))
    (fun a b h => by simpa using (of_decide_eq_true h).le) (fun _ _ h => h)
    (fun a b c h1 h2 => by simpa using (not_lt.mp (of_decide_eq_false h1)).trans (not_lt.mp (of_decide_eq_false h2))) 0 1 (by decide)
  simp only [value, picked, gt_eq]
  exact not_lt.mp (of_decide_eq_false h)

/-- The larger of the two picked values is the first. -/
theorem max_eq (g : Fin 4 → EReal) : Finset.fold max ⊥ (value g) Finset.univ = value g 0 := by
  have h : Finset.fold max ⊥ (value g) Finset.univ = max (value g 0) (max (value g 1) ⊥) := by
    rw [show (Finset.univ : Finset (Fin 2)) = {0, 1} from rfl, Finset.fold_insert (by simp), Finset.fold_singleton]
  rw [h, max_bot_right, max_eq_left (value_le g)]

/-- Of finite gates, an expert's weight is the reference's where it is picked and nought where it is not. -/
theorem weight_eq (g : Fin 4 → EReal) (hg : ∀ e, g e ≠ ⊤ ∧ g e ≠ ⊥) (e : Fin 4) :
    weight g e = if picked g 0 = e then refWeight g 0 else if picked g 1 = e then refWeight g 1 else 0 := by
  have h0 : Ideal.exp (value g 0 - value g 0) = 1 := by
    obtain ⟨r, hr⟩ : ∃ r : ℝ, (r : EReal) = value g 0 := ⟨_, EReal.coe_toReal (hg _).1 (hg _).2⟩
    rw [← hr, ← EReal.coe_sub, sub_self]
    show ((Real.exp 0 : ℝ) : EReal) = 1
    rw [Real.exp_zero]
    rfl
  unfold weight refWeight
  rw [max_eq, Fin.sum_univ_two, h0, first_eq, second_eq]
  simp only [count_lt]
  by_cases e0 : picked g 0 = e
  · rw [if_pos (Or.inl e0), if_pos e0, ← e0]
    show Ideal.div (Ideal.exp (value g 0 - value g 0)) _ = _
    rw [h0]
    rfl
  · by_cases e1 : picked g 1 = e
    · rw [if_pos (Or.inr e1), if_neg e0, if_pos e1, ← e1]
      rfl
    · rw [if_neg (by tauto), if_neg e0, if_neg e1]

/-- The weighted sum over the picks, in the order of the picks and then of the experts, is the weighted sum over the experts. -/
theorem sum_eq (g y : Fin 4 → EReal) (hg : ∀ e, g e ≠ ⊤ ∧ g e ≠ ⊥) :
    (∑ k : Fin 2, ∑ e : Fin 4, if picked g ⟨k.val, by omega⟩ = e then y e * refWeight g k else 0) = ∑ e, y e * weight g e := by
  have hne : picked g 0 ≠ picked g 1 := fun h => absurd (sortedFrom_injective _ h) (by decide)
  rw [Fin.sum_univ_two]
  show (∑ e, if picked g 0 = e then y e * refWeight g 0 else 0) + (∑ e, if picked g 1 = e then y e * refWeight g 1 else 0) = _
  rw [← Finset.sum_add_distrib]
  refine Finset.sum_congr rfl fun e _ => ?_
  rw [weight_eq g hg]
  by_cases e0 : picked g 0 = e
  · rw [if_pos e0, if_pos e0, if_neg (fun h => hne (e0.trans h.symm)), add_zero]
  · rw [if_neg e0, if_neg e0, zero_add]
    split <;> simp

end Cert.Gates

end
-- ==== Proof.Gating.lean ====
/-
# The gating weights at an index

The kernel ranks each token's four gates by counting the gates that come before one; its weights are those of Top2.lean.
-/
module

public import proofs.«01_k».proof.Proof.Proto
public import proofs.«01_k».proof.Proof.Top2

@[expose] public section

set_option maxRecDepth 16384

noncomputable section

namespace Cert.Exchange

open Idealize.ShloMosaic Idealize.SL.Sem Cert.KernelIdeal Cert.KernelIdeal.Gen Cert.KernelIdeal.Facts

/-- The word of the float two. -/
theorem ofBits_two : Ideal.ofBits .f32 0x40000000#32 = 2 := by
  simp [Ideal.ofBits, Ideal.ieee, -EReal.coe_mul]
  norm_num
  rfl

/-- The four gates of token `t`. -/
def gates (b : BitVec 1) (rm rp : Vec Ideal S512x2 .f32) (x : Vec Ideal S256x512 .f32) (t : Fin 256) (e : Fin 4) : EReal :=
  k0_pay5 b rm rp x (ix2 t e)

/-- The kernel's gating weights are those of its gates. -/
theorem gating_apply (b : BitVec 1) (rm rp : Vec Ideal S512x2 .f32) (x : Vec Ideal S256x512 .f32) (t : Fin 256) (e : Fin 4) :
    gating b rm rp x (ix2 t e) = Gates.weight (gates b rm rp x t) e := by
  fin_cases e
  all_goals
    pointwise [gating, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24]
    rw [ofBits_two]
    rfl

end Cert.Exchange

end
-- ==== Proof.Mixture.lean ====
/-
# The mixture of experts as one formula

What one element of the result is, as a function of the four whole arrays: the sum over the four experts of the expert's
output times its gating weight. Both programs are brought to this formula.
-/
module

public import proofs.«01_k».proof.Proof.Top2

@[expose] public section

noncomputable section

namespace Cert.Gates

open Idealize.ShloMosaic

variable (X : (⟨2, ![512, 512]⟩ : Shape).Idx → EReal) (R : (⟨2, ![512, 4]⟩ : Shape).Idx → EReal)
  (A : (⟨3, ![4, 512, 1024]⟩ : Shape).Idx → EReal) (B : (⟨3, ![4, 1024, 512]⟩ : Shape).Idx → EReal)

/-- Token `t`'s gate for expert `e`. -/
def gate (t : Fin 512) (e : Fin 4) : EReal := ∑ k : Fin 512, X (ix2 t k) * R (ix2 k e)

/-- Element `d` of expert `e`'s output for token `t`. -/
def expert (t d : Fin 512) (e : Fin 4) : EReal :=
  ∑ f : Fin 1024, max (∑ k : Fin 512, X (ix2 t k) * A (ix3 e k f)) 0 * B (ix3 e f d)

/-- One element of the mixture. -/
def mixture (t d : Fin 512) : EReal := ∑ e : Fin 4, expert X A B t d e * weight (gate X R t) e

/-- A sum of products of finite numbers is finite. -/
theorem sum_finite {ι : Type} (s : Finset ι) (a b : ι → EReal) (ha : ∀ i, a i ≠ ⊤ ∧ a i ≠ ⊥) (hb : ∀ i, b i ≠ ⊤ ∧ b i ≠ ⊥) :
    (∑ i ∈ s, a i * b i) ≠ ⊤ ∧ (∑ i ∈ s, a i * b i) ≠ ⊥ := by
  choose p hp using fun i => (⟨_, EReal.coe_toReal (ha i).1 (ha i).2⟩ : ∃ r : ℝ, (r : EReal) = a i)
  choose q hq using fun i => (⟨_, EReal.coe_toReal (hb i).1 (hb i).2⟩ : ∃ r : ℝ, (r : EReal) = b i)
  have h : (∑ i ∈ s, a i * b i) = ((∑ i ∈ s, p i * q i : ℝ) : EReal) := by
    classical
    induction s using Finset.induction_on with
    | empty => simp
    | insert i s hi ih => rw [Finset.sum_insert hi, Finset.sum_insert hi, ih, ← hp, ← hq, EReal.coe_add, EReal.coe_mul]
  rw [h]
  exact ⟨EReal.coe_ne_top _, EReal.coe_ne_bot _⟩

/-- The gates of finite tokens and a finite router are finite. -/
theorem gate_finite (hX : ∀ i, X i ≠ ⊤ ∧ X i ≠ ⊥) (hR : ∀ i, R i ≠ ⊤ ∧ R i ≠ ⊥) (t : Fin 512) (e : Fin 4) :
    gate X R t e ≠ ⊤ ∧ gate X R t e ≠ ⊥ :=
  sum_finite _ (fun k => X (ix2 t k)) (fun k => R (ix2 k e)) (fun _ => hX _) fun _ => hR _

end Cert.Gates

end
-- ==== Proof.Experts.lean ====
/-
# The kernel's value

Each element of the block that a device writes is the mixture of the whole arrays, at the row the device's block starts
at.
-/
module

public import proofs.«01_k».proof.Proof.Gating
public import proofs.«01_k».proof.Proof.Mixture
public import proofs.«01_k».proof.Proof.Data

@[expose] public section

set_option maxRecDepth 16384

noncomputable section

namespace Cert.Exchange

open Idealize.ShloMosaic Idealize.SL.Sem Cert.KernelIdeal Cert.KernelIdeal.Gen Cert.KernelIdeal.Facts

/-- One expert's output for one token. -/
def oneExpert (x : Vec Ideal S256x512 .bf16) (u : Vec Ideal S1x512x1024 .bf16) (v : Vec Ideal S1x1024x512 .bf16) (t : Fin 256) (d : Fin 512) : EReal :=
  ∑ f : Fin 1024, max (∑ k : Fin 512, (x (ix2 t k) : EReal) * u (ix3 0 k f)) 0 * v (ix3 0 f d)

/-- The contribution of a device's two experts to one token. -/
def twoExperts (b : BitVec 1) (x : Vec Ideal S256x512 .bf16) (g : Vec Ideal S256x4 .f32) (u0 u1 : Vec Ideal S1x512x1024 .bf16)
    (v0 v1 : Vec Ideal S1x1024x512 .bf16) (t : Fin 256) (d : Fin 512) : EReal :=
  oneExpert x u0 v0 t d * Scalar.select b (g (ix2 t 0) : EReal) (g (ix2 t 2))
    + oneExpert x u1 v1 t d * Scalar.select b (g (ix2 t 1) : EReal) (g (ix2 t 3))

/-- The part computed for the peer. -/
theorem forPeer_apply (b : BitVec 1) (x : Vec Ideal S256x512 .bf16) (g : Vec Ideal S256x4 .f32) (u0 u1 : Vec Ideal S1x512x1024 .bf16)
    (v0 v1 : Vec Ideal S1x1024x512 .bf16) (t : Fin 256) (d : Fin 512) :
    (k0_pay27 x (k0_pay25 b x g u0 v0) (k0_pay26 b g) u1 v1 (ix2 t d) : EReal) = twoExperts b x g u0 u1 v0 v1 t d := by
  pointwise [k0_pay27, k0_pay26, k0_pay25]
  rfl

/-- The part computed for the device itself. -/
theorem forSelf_apply (b : BitVec 1) (x : Vec Ideal S256x512 .bf16) (g : Vec Ideal S256x4 .f32) (u0 u1 : Vec Ideal S1x512x1024 .bf16)
    (v0 v1 : Vec Ideal S1x1024x512 .bf16) (t : Fin 256) (d : Fin 512) :
    (k0_pay30 b x g k0_pay28 (k0_pay29 b g) u0 v0 u1 v1 (ix2 t d) : EReal) = twoExperts b x g u0 u1 v0 v1 t d := by
  pointwise [k0_pay30, k0_pay29, k0_pay28]
  rfl

/-- The two parts are added. -/
theorem added_apply (p : Vec Ideal S256x512 .f32) (q : Vec Ideal S256x512 .bf16) (t : Fin 256) (d : Fin 512) :
    (k0_pay1 p q (ix2 t d) : EReal) = p (ix2 t d) + q (ix2 t d) := by
  pointwise [k0_pay1]

/-- The gates of a device's token, from the two halves of the router. -/
theorem gates_sum (b : BitVec 1) (rm rp : Vec Ideal S512x2 .f32) (x : Vec Ideal S256x512 .f32) (t : Fin 256) (e : Fin 4) :
    gates b rm rp x t e = ∑ k : Fin 512, (x (ix2 t k) : EReal) * if h : e.val < 2 then Scalar.select b (rm (ix2 k ⟨e.val, h⟩)) (rp (ix2 k ⟨e.val, h⟩))
      else Scalar.select b (rp (ix2 k ⟨e.val - 2, by omega⟩)) (rm (ix2 k ⟨e.val - 2, by omega⟩)) := by
  pointwise [gates, k0_pay5]

variable (m : (ℓ : Loc nD τ sig) → Buf (Elt Ideal) ℓ)

/-- One element of a device's block. -/
theorem outAt_apply (c : Dev nD) (t : Fin 256) (d : Fin 512) :
    (outAt m c (ix2 t d) : EReal)
      = twoExperts (atZero c) (xOut m c) (gOut m c) (w1At0 m c) (w1At1 m c) (w2At0 m c) (w2At1 m c) t d
        + twoExperts (atZero (peer c)) (xOut m c) (gOut m c) (w1At0 m (peer c)) (w1At1 m (peer c)) (w2At0 m (peer c)) (w2At1 m (peer c)) t d := by
  refine (added_apply _ _ t d).trans (congrArg₂ (· + ·) (forSelf_apply _ _ _ _ _ _ _ t d) ?_)
  refine (forPeer_apply _ _ _ _ _ _ _ t d).trans ?_
  rw [peer_peer]

/-! What the pipeline stages, and what is sent, at an index. -/

/-- The staged tokens are the device's. -/
theorem xIn_eq (c : Dev nD) : xIn m c = m (c.tc.loc main_arg0) :=
  Memref.read_access_unit_zero _ main_arg0 (funext fun a => by fin_cases a <;> rfl) _ _

/-- The staged router columns are the device's. -/
theorem rIn_eq (c : Dev nD) : rIn m c = m (c.tc.loc main_arg1) :=
  Memref.read_access_unit_zero _ main_arg1 (funext fun a => by fin_cases a <;> rfl) _ _

/-- The tokens sent are the device's: the change of format keeps every value. -/
theorem xOut_apply (c : Dev nD) (t : Fin 256) (k : Fin 512) :
    (xOut m c (ix2 t k) : EReal) = (m (c.tc.loc main_arg0) : S256x512.Idx → EReal) (ix2 t k) := by
  rw [← xIn_eq m c]
  pointwise [xOut, k0_pay2]

/-- The first weights, in the format the products take. -/
theorem w1Out_apply (c : Dev nD) (e : Fin 2) (k : Fin 512) (f : Fin 1024) :
    (w1Out m c (ix3 e k f) : EReal) = (m (c.tc.loc main_arg2) : S2x512x1024.Idx → EReal) (ix3 e k f) := by
  pointwise [w1Out, k0_pay3, w1In]

/-- The second weights, in the format the products take. -/
theorem w2Out_apply (c : Dev nD) (e : Fin 2) (f : Fin 1024) (d : Fin 512) :
    (w2Out m c (ix3 e f d) : EReal) = (m (c.tc.loc main_arg3) : S2x1024x512.Idx → EReal) (ix3 e f d) := by
  pointwise [w2Out, k0_pay4, w2In]

/-- The rectangle of one row of a three-axis array names the row's indices. -/
theorem row_idx {n p q : ℕ} (e : Fin n) (inb : ∀ a : Fin 3, (![e.val, 0, 0] : Fin 3 → ℕ) a + (![1, p, q] : Fin 3 → ℕ) a ≤ (![n, p, q] : Fin 3 → ℕ) a)
    (i : Fin p) (j : Fin q) :
    (Rect.unit (s := (⟨3, ![n, p, q]⟩ : Shape)) ![e.val, 0, 0] ![1, p, q] inb).toLoadRect.idx (ix3 0 i j) = ix3 e i j :=
  funext fun a => Fin.ext (match a with
    | ⟨0, _⟩ => rfl
    | ⟨1, _⟩ => (Nat.zero_add _).trans (Nat.one_mul _)
    | ⟨2, _⟩ => (Nat.zero_add _).trans (Nat.one_mul _))

/-- The first weights of the device's expert 0. -/
theorem w1At0_apply (c : Dev nD) (k : Fin 512) (f : Fin 1024) :
    (w1At0 m c (ix3 0 k f) : EReal) = (m (c.tc.loc main_arg2) : S2x512x1024.Idx → EReal) (ix3 0 k f) :=
  (congrArg (w1Out m c) (row_idx (n := 2) 0 _ k f)).trans (w1Out_apply m c 0 k f)

/-- The first weights of the device's expert 1. -/
theorem w1At1_apply (c : Dev nD) (k : Fin 512) (f : Fin 1024) :
    (w1At1 m c (ix3 0 k f) : EReal) = (m (c.tc.loc main_arg2) : S2x512x1024.Idx → EReal) (ix3 1 k f) :=
  (congrArg (w1Out m c) (row_idx (n := 2) 1 _ k f)).trans (w1Out_apply m c 1 k f)

/-- The second weights of the device's expert 0. -/
theorem w2At0_apply (c : Dev nD) (f : Fin 1024) (d : Fin 512) :
    (w2At0 m c (ix3 0 f d) : EReal) = (m (c.tc.loc main_arg3) : S2x1024x512.Idx → EReal) (ix3 0 f d) :=
  (congrArg (w2Out m c) (row_idx (n := 2) 0 _ f d)).trans (w2Out_apply m c 0 f d)

/-- The second weights of the device's expert 1. -/
theorem w2At1_apply (c : Dev nD) (f : Fin 1024) (d : Fin 512) :
    (w2At1 m c (ix3 0 f d) : EReal) = (m (c.tc.loc main_arg3) : S2x1024x512.Idx → EReal) (ix3 1 f d) :=
  (congrArg (w2Out m c) (row_idx (n := 2) 1 _ f d)).trans (w2Out_apply m c 1 f d)

/-- After the run the result array holds the device's block. -/
theorem final_out (c : Dev nD) : (dats m 0 c).arrAt 2 cfg0.N = outAt m c := by
  refine (dats m 0 c).arrAt_eq_of_cover 2 (outAt m c) (fun t _ => ?_) fun i => ⟨t₀, flush0_2 t₀, ?_⟩
  · unfold Pipeline.Dat.flushed
    dsimp only [dats]
    exact (Memref.read_access_unit_zero _ main_v1 (funext fun a => by fin_cases a <;> rfl) _ _).symm
  · show i ∈ ((View.whole main_v1).slice (win0_2.rect t₀)).set
    rw [View.set_slice_whole, Rect.mem_set_unit]
    intro a
    have h0 : (i 0 : Nat) < 256 := (i 0).isLt
    have h1 : (i 1 : Nat) < 512 := (i 1).isLt
    match a with
    | ⟨0, _⟩ => show 0 * 256 ≤ (i 0 : Nat) ∧ (i 0 : Nat) < 0 * 256 + 256
                omega
    | ⟨1, _⟩ => show 0 * 512 ≤ (i 1 : Nat) ∧ (i 1 : Nat) < 0 * 512 + 512
                omega

/-! ## The blocks of the whole arrays -/

/-- The bit says whether the device's `y` is 0. -/
theorem atZero_eq (c : Dev nD) : atZero c = if (c.val / 4) % 2 = 0 then 1#1 else 0#1 := by revert c; decide

/-- The peer sits at the other `y`. -/
theorem peer_y (c : Dev nD) : ((peer c).val / 4) % 2 = 1 - (c.val / 4) % 2 := by revert c; decide

/-- The arrays of the whole problem, cut over the devices. -/
structure Cuts (X : (⟨2, ![512, 512]⟩ : Shape).Idx → EReal) (R : (⟨2, ![512, 4]⟩ : Shape).Idx → EReal)
    (A : (⟨3, ![4, 512, 1024]⟩ : Shape).Idx → EReal) (B : (⟨3, ![4, 1024, 512]⟩ : Shape).Idx → EReal) : Prop where
  x : ∀ (c : Dev nD) (t : Fin 256) (k : Fin 512),
    (m (c.tc.loc main_arg0) : S256x512.Idx → EReal) (ix2 t k) = X (ix2 ⟨256 * ((c.val / 4) % 2) + t.val, by omega⟩ k)
  r : ∀ (c : Dev nD) (k : Fin 512) (e : Fin 2),
    (m (c.tc.loc main_arg1) : S512x2.Idx → EReal) (ix2 k e) = R (ix2 k ⟨2 * ((c.val / 4) % 2) + e.val, by omega⟩)
  a : ∀ (c : Dev nD) (e : Fin 2) (k : Fin 512) (f : Fin 1024),
    (m (c.tc.loc main_arg2) : S2x512x1024.Idx → EReal) (ix3 e k f) = A (ix3 ⟨2 * ((c.val / 4) % 2) + e.val, by omega⟩ k f)
  b : ∀ (c : Dev nD) (e : Fin 2) (f : Fin 1024) (d : Fin 512),
    (m (c.tc.loc main_arg3) : S2x1024x512.Idx → EReal) (ix3 e f d) = B (ix3 ⟨2 * ((c.val / 4) % 2) + e.val, by omega⟩ f d)

section
variable {m} {X : (⟨2, ![512, 512]⟩ : Shape).Idx → EReal} {R : (⟨2, ![512, 4]⟩ : Shape).Idx → EReal}
  {A : (⟨3, ![4, 512, 1024]⟩ : Shape).Idx → EReal} {B : (⟨3, ![4, 1024, 512]⟩ : Shape).Idx → EReal} (H : Cuts m X R A B)
include H

/-- The router as the device puts it together is the whole router. -/
theorem router_whole (c : Dev nD) (k : Fin 512) (e : Fin 4) :
    (if h : e.val < 2 then Scalar.select (atZero c) ((rIn m c : S512x2.Idx → EReal) (ix2 k ⟨e.val, h⟩)) ((rIn m (peer c) : S512x2.Idx → EReal) (ix2 k ⟨e.val, h⟩))
      else Scalar.select (atZero c) ((rIn m (peer c) : S512x2.Idx → EReal) (ix2 k ⟨e.val - 2, by omega⟩)) ((rIn m c : S512x2.Idx → EReal) (ix2 k ⟨e.val - 2, by omega⟩)))
      = R (ix2 k e) := by
  rw [rIn_eq m c, rIn_eq m (peer c)]
  simp only [H.r, peer_y, atZero_eq]
  rcases Nat.mod_two_eq_zero_or_one (c.val / 4) with hy | hy <;> fin_cases e <;> simp [hy, Scalar.select]

/-- The device's gates are those of its tokens. -/
theorem gates_whole (c : Dev nD) (t : Fin 256) :
    gates (atZero c) (rIn m c) (rIn m (peer c)) (xIn m c) t
      = Gates.gate X R ⟨256 * ((c.val / 4) % 2) + t.val, by omega⟩ := by
  funext e
  rw [gates_sum]
  refine Finset.sum_congr rfl fun k _ => ?_
  rw [router_whole H c k e, xIn_eq m c, H.x]

/-- The device's gating weights are those of its tokens. -/
theorem gOut_whole (c : Dev nD) (t : Fin 256) (e : Fin 4) :
    (gOut m c (ix2 t e) : EReal) = Gates.weight (Gates.gate X R ⟨256 * ((c.val / 4) % 2) + t.val, by omega⟩) e := by
  unfold gOut
  rw [gating_apply, gates_whole H]

/-- Expert 0 of a device `p`, on the tokens of a device `c`. -/
theorem expert0_whole (c p : Dev nD) (t : Fin 256) (d : Fin 512) :
    oneExpert (xOut m c) (w1At0 m p) (w2At0 m p) t d
      = Gates.expert X A B ⟨256 * ((c.val / 4) % 2) + t.val, by omega⟩ d ⟨2 * ((p.val / 4) % 2) + 0, by omega⟩ := by
  unfold oneExpert Gates.expert
  simp only [xOut_apply, w1At0_apply, w2At0_apply, H.x, H.a, H.b]
  rfl

/-- Expert 1 of a device `p`, on the tokens of a device `c`. -/
theorem expert1_whole (c p : Dev nD) (t : Fin 256) (d : Fin 512) :
    oneExpert (xOut m c) (w1At1 m p) (w2At1 m p) t d
      = Gates.expert X A B ⟨256 * ((c.val / 4) % 2) + t.val, by omega⟩ d ⟨2 * ((p.val / 4) % 2) + 1, by omega⟩ := by
  unfold oneExpert Gates.expert
  simp only [xOut_apply, w1At1_apply, w2At1_apply, H.x, H.a, H.b]
  rfl

/-- Each element of a device's block is the mixture of the whole arrays. -/
theorem outAt_whole (c : Dev nD) (t : Fin 256) (d : Fin 512) :
    (outAt m c (ix2 t d) : EReal) = Gates.mixture X R A B ⟨256 * ((c.val / 4) % 2) + t.val, by omega⟩ d := by
  rw [outAt_apply]
  unfold twoExperts Gates.mixture
  simp only [expert0_whole H, expert1_whole H, gOut_whole H, atZero_eq, peer_y, Fin.sum_univ_four]
  rcases Nat.mod_two_eq_zero_or_one (c.val / 4) with hy | hy
  · simp [hy, Scalar.select, add_assoc]
  · simp [hy, Scalar.select]
    rw [add_comm, add_assoc, add_assoc, add_assoc]

end

end Cert.Exchange

end
-- ==== Proof.Reference.lean ====
/-
# The reference's value

Each element of the reference's result is the mixture of the argument arrays.
-/
module

public import proofs.«01_k».proof.Proof.Gen.ReferenceIdeal.Run
public import proofs.«01_k».proof.Proof.Mixture
public import Idealize.ShloMosaic.Lib.Tactic.CleanTypes

@[expose] public section

set_option maxRecDepth 16384

noncomputable section

namespace Cert.Reference

open Idealize.ShloMosaic Idealize.SL.Sem Cert.ReferenceIdeal Cert.ReferenceIdeal.Gen Cert.ReferenceIdeal.Facts Cert.ReferenceIdeal.Value
open Cert.Gates

variable (V : Valuation τ sig (Elt Ideal))

/-- The reference's tokens, -/
def tokens : (⟨2, ![512, 512]⟩ : Shape).Idx → EReal := V (Proc.devRef .tc main_arg0)
/-- its router, -/
def router : (⟨2, ![512, 4]⟩ : Shape).Idx → EReal := V (Proc.devRef .tc main_arg1)
/-- its first weights -/
def first : (⟨3, ![4, 512, 1024]⟩ : Shape).Idx → EReal := V (Proc.devRef .tc main_arg2)
/-- and its second. -/
def second : (⟨3, ![4, 1024, 512]⟩ : Shape).Idx → EReal := V (Proc.devRef .tc main_arg3)

/-- The reference's product is the gates. -/
theorem gates_apply (t : Fin 512) (e : Fin 4) : (res_main_v0 V (ix2 t e) : EReal) = gate (tokens V) (router V) t e := by
  unfold res_main_v0
  clean_types
  pointwise []
  rfl

/-- A row's index with its last coordinate replaced. -/
theorem along_ix2 (t : Fin 512) (k p : Fin 4) : (ix2 t k : (⟨2, ![512, 4]⟩ : Shape).Idx).along 1 p = ix2 t p := by
  funext a
  match a with
  | ⟨0, _⟩ => rfl
  | ⟨1, _⟩ => rfl

/-- The sort's places are the picks. -/
theorem sorted_eq (t : Fin 512) (k : Fin 4) :
    sortedFrom (fun i j : Fin 4 => FloatOps.cmpfTotal (F := Ideal) (φ := .f32) .gt (res_main_v0 V (ix2 t i)) (res_main_v0 V (ix2 t j)) == 1#1) k
      = picked (gate (tokens V) (router V) t) k := by
  simp only [gates_apply]
  rfl

/-- The picked gates. -/
theorem values_apply (t : Fin 512) (k : Fin 2) :
    (res_main_values V (ix2 t k) : EReal) = value (gate (tokens V) (router V) t) k := by
  unfold res_main_values
  clean_types
  unfold Host.topK Host.sort2
  pointwise []
  simp only [along_ix2]
  refine (gates_apply V t _).trans (congrArg (gate (tokens V) (router V) t) ?_)
  exact sorted_eq V t _

/-- The picked experts, as words. -/
theorem indices_apply (t : Fin 512) (k : Fin 2) :
    (res_main_indices V (ix2 t k) : BitVec 32) = BitVec.ofNat 32 (picked (gate (tokens V) (router V) t) ⟨k.val, by omega⟩).val := by
  unfold res_main_indices
  clean_types
  unfold Host.topK Host.sort2
  pointwise []
  simp only [along_ix2]
  exact congrArg (fun e : Fin 4 => BitVec.ofNat 32 e.val) (sorted_eq V t _)

/-- The word the maximum starts from is `-∞`. -/
theorem ofBits_bot : Ideal.ofBits .f32 0xFF800000#32 = ⊥ := by
  simp [Ideal.ofBits, Ideal.ieee]

/-- The reference's weight of pick `k`. -/
theorem weights_apply (t : Fin 512) (k : Fin 2) :
    (res_main_v9 V (ix2 t k) : EReal) = refWeight (gate (tokens V) (router V) t) k := by
  unfold res_main_v9 res_main_v5
  clean_types
  pointwise [values_apply]
  rw [ofBits_bot]
  rfl

/-- The mask of expert `e` among the picks. -/
theorem mask_eq (e : Fin 4) (p : Fin 4) (a : EReal) :
    Scalar.select (IntOp.cmpi .eq (BitVec.ofNat 32 p.val) (BitVec.ofNat 32 e.val)) a 0 = if p = e then a else 0 := by
  have h : IntOp.cmpi .eq (BitVec.ofNat 32 p.val) (BitVec.ofNat 32 e.val) = BitVec.ofBool (decide (p = e)) := by
    revert p e
    decide
  rw [h]
  by_cases hp : p = e <;> simp [hp, Scalar.select]

/-- One element of the reference's result. -/
theorem out_apply (hX : ∀ i, tokens V i ≠ ⊤ ∧ tokens V i ≠ ⊥) (hR : ∀ i, router V i ≠ ⊤ ∧ router V i ≠ ⊥) (t d : Fin 512) :
    (res_main_v138 V (ix2 t d) : EReal) = mixture (tokens V) (router V) (first V) (second V) t d := by
  have h := sum_eq (gate (tokens V) (router V) t) (expert (tokens V) (first V) (second V) t d)
    (gate_finite (tokens V) (router V) hX hR t)
  refine Eq.trans ?_ h
  unfold res_main_v138 res_main_v74
  clean_types
  pointwise [indices_apply, weights_apply]
  rw [Fin.sum_univ_two, Fin.sum_univ_four, Fin.sum_univ_four]
  simp only [← mask_eq, ← add_assoc]
  have hz : id (constant (F := Ideal) S_ FTy.f32 0x00000000#32) ix0 = (0 : EReal) := Ideal.ofBits_zero_f32
  simp only [hz]
  rfl

end Cert.Reference

end
-- ==== Proof.Whole.lean ====
/-
# The two programs over the whole arrays

The layouts cut the arrays by the device's `y`; the precondition makes the tokens and the router finite, block by block
and so as a whole; the kernel's blocks are then those of the reference's result.
-/
module

public import proofs.«01_k».proof.Proof.Experts
public import proofs.«01_k».proof.Proof.Reference
public import proofs.«01_k».proof.Defs

@[expose] public section

set_option maxRecDepth 16384

noncomputable section

namespace Cert.Whole

open Idealize.ShloMosaic Idealize.SL.Sem Cert.Exchange

/-- The shape relations the precondition takes at the kernel's blocks. -/
theorem preKernel : Cert.Pre_finite_gating_KernelIdeal.Facts := ⟨by decide, by decide⟩

/-- The shape relations the precondition takes at the reference's arrays. -/
theorem preReference : Cert.Pre_finite_gating_ReferenceIdeal.Facts := ⟨by decide, by decide⟩

/-! ## Finiteness -/

/-- The word the precondition compares with is `+∞`. -/
theorem ofBits_top : Ideal.ofBits .f32 0x7F800000#32 = (⊤ : EReal) := by
  simp [Ideal.ofBits, Ideal.ieee]

/-- An extended real whose absolute value is below `+∞` is finite. -/
theorem finite_of_abs (a : EReal) (h : BitVec.ofBool (decide (max a (-a) < Ideal.ofBits .f32 0x7F800000#32)) = 1#1) : a ≠ ⊤ ∧ a ≠ ⊥ := by
  rw [ofBits_top] at h
  refine ⟨fun e => ?_, fun e => ?_⟩ <;> subst e <;> simp at h

section
attribute [local instance] preKernel

variable (x : FVec Ideal ⟨2, ![256, 512]⟩ .f32) (r : FVec Ideal ⟨2, ![512, 2]⟩ .f32) (u : FVec Ideal ⟨3, ![2, 512, 1024]⟩ .f32)
  (v : FVec Ideal ⟨3, ![2, 1024, 512]⟩ .f32)

/-- What the precondition says of one token entry. -/
theorem pre_tokens (h : (Cert.Pre_finite_gating_KernelIdeal.fn (F := Ideal) x r u v).1 = fun _ => 1#1) (t : Fin 256) (k : Fin 512) :
    (x (ix2 t k) : EReal) ≠ ⊤ ∧ (x (ix2 t k) : EReal) ≠ ⊥ := by
  have h1 := congrFun h (ix2 t k)
  refine finite_of_abs _ (Eq.trans ?_ h1)
  pointwise [Cert.Pre_finite_gating_KernelIdeal.fn]
  rfl

/-- What the precondition says of one router entry. -/
theorem pre_router (h : (Cert.Pre_finite_gating_KernelIdeal.fn (F := Ideal) x r u v).2 = fun _ => 1#1) (k : Fin 512) (e : Fin 2) :
    (r (ix2 k e) : EReal) ≠ ⊤ ∧ (r (ix2 k e) : EReal) ≠ ⊥ := by
  have h1 := congrFun h (ix2 k e)
  refine finite_of_abs _ (Eq.trans ?_ h1)
  pointwise [Cert.Pre_finite_gating_KernelIdeal.fn]
  rfl

end

/-! ## The layouts -/

/-- Cut by the mesh's second axis, a device's block is numbered by its `y`. -/
theorem cut_y (c : Fin 16) : Layout.meshLin [2, 2, 4] c.val [1] = (c.val / 4) % 2 := by revert c; decide

/-- The rows of a two-axis array cut by `y`. -/
theorem rows_block (V : (⟨2, ![512, 512]⟩ : Shape).Idx → EReal) (c : Fin 16) (t : Fin 256) (k : Fin 512) :
    Layout.blockN ⟨2, ![256, 512]⟩ ⟨2, ![512, 512]⟩ (Layout.meshBlock [2, 2, 4] ![[1], []] c) V (by decide) (ix2 t k)
      = V (ix2 ⟨256 * ((c.val / 4) % 2) + t.val, by omega⟩ k) := by
  refine congrArg V (funext fun b => Fin.ext ?_)
  match b with
  | ⟨0, _⟩ => show Layout.meshLin [2, 2, 4] c.val [1] * 256 + t.val = 256 * ((c.val / 4) % 2) + t.val
              rw [cut_y, Nat.mul_comm]
  | ⟨1, _⟩ => show 0 * 512 + k.val = k.val
              omega

/-- The columns of the router cut by `y`. -/
theorem columns_block (V : (⟨2, ![512, 4]⟩ : Shape).Idx → EReal) (c : Fin 16) (k : Fin 512) (e : Fin 2) :
    Layout.blockN ⟨2, ![512, 2]⟩ ⟨2, ![512, 4]⟩ (Layout.meshBlock [2, 2, 4] ![[], [1]] c) V (by decide) (ix2 k e)
      = V (ix2 k ⟨2 * ((c.val / 4) % 2) + e.val, by omega⟩) := by
  refine congrArg V (funext fun b => Fin.ext ?_)
  match b with
  | ⟨0, _⟩ => show 0 * 512 + k.val = k.val
              omega
  | ⟨1, _⟩ => show Layout.meshLin [2, 2, 4] c.val [1] * 2 + e.val = 2 * ((c.val / 4) % 2) + e.val
              rw [cut_y, Nat.mul_comm]

/-- The experts of a stack of matrices cut by `y`. -/
theorem experts_block {p q : ℕ} (V : (⟨3, ![4, p, q]⟩ : Shape).Idx → EReal) (c : Fin 16)
    (h : Layout.TilesN ⟨3, ![2, p, q]⟩ ⟨3, ![4, p, q]⟩ (fun b => Layout.cutSize [2, 2, 4] ((![[1], [], []] : Fin 3 → List ℕ) b)))
    (e : Fin 2) (i : Fin p) (j : Fin q) :
    Layout.blockN ⟨3, ![2, p, q]⟩ ⟨3, ![4, p, q]⟩ (Layout.meshBlock [2, 2, 4] ![[1], [], []] c) V h (ix3 e i j)
      = V (ix3 ⟨2 * ((c.val / 4) % 2) + e.val, by omega⟩ i j) := by
  refine congrArg V (funext fun b => Fin.ext ?_)
  match b with
  | ⟨0, _⟩ => show Layout.meshLin [2, 2, 4] c.val [1] * 2 + e.val = 2 * ((c.val / 4) % 2) + e.val
              rw [cut_y, Nat.mul_comm]
  | ⟨1, _⟩ => show 0 * p + i.val = i.val
              omega
  | ⟨2, _⟩ => show 0 * q + j.val = j.val
              omega

section
attribute [local instance] preKernel

variable (m : (ℓ : Loc Cert.KernelIdeal.nD Cert.KernelIdeal.τ Cert.KernelIdeal.sig) → Buf (Elt Ideal) ℓ)
  (X : (⟨2, ![512, 512]⟩ : Shape).Idx → EReal) (R : (⟨2, ![512, 4]⟩ : Shape).Idx → EReal)
  (A : (⟨3, ![4, 512, 1024]⟩ : Shape).Idx → EReal) (B : (⟨3, ![4, 1024, 512]⟩ : Shape).Idx → EReal)

/-- Arrays laid out as the claim says are cut by the devices' `y`. -/
theorem cuts_of (h : ∀ c : Dev Cert.KernelIdeal.nD,
    m (c.tc.loc Cert.KernelIdeal.main_arg0) = Layout.blockN ⟨2, ![256, 512]⟩ ⟨2, ![512, 512]⟩ (Layout.meshBlock [2, 2, 4] ![[1], []] c) X
    ∧ m (c.tc.loc Cert.KernelIdeal.main_arg1) = Layout.blockN ⟨2, ![512, 2]⟩ ⟨2, ![512, 4]⟩ (Layout.meshBlock [2, 2, 4] ![[], [1]] c) R
    ∧ m (c.tc.loc Cert.KernelIdeal.main_arg2) = Layout.blockN ⟨3, ![2, 512, 1024]⟩ ⟨3, ![4, 512, 1024]⟩ (Layout.meshBlock [2, 2, 4] ![[1], [], []] c) A
    ∧ m (c.tc.loc Cert.KernelIdeal.main_arg3) = Layout.blockN ⟨3, ![2, 1024, 512]⟩ ⟨3, ![4, 1024, 512]⟩ (Layout.meshBlock [2, 2, 4] ![[1], [], []] c) B) :
    Cuts m X R A B where
  x c t k := (congrFun (h c).1 (ix2 t k)).trans (rows_block X c t k)
  r c k e := (congrFun (h c).2.1 (ix2 k e)).trans (columns_block R c k e)
  a c e k f := (congrFun (h c).2.2.1 (ix3 e k f)).trans (experts_block A c _ e k f)
  b c e f d := (congrFun (h c).2.2.2 (ix3 e f d)).trans (experts_block B c _ e f d)

variable {m X R A B} (H : Cuts m X R A B) (hm : Cert.Pre_KernelIdeal_finite_gating_KernelIdeal m)
include H hm

/-- Every token entry of the whole problem lies in the block of the device at `y = 0` or of the one at `y = 1`. -/
theorem tokens_finite (i : (⟨2, ![512, 512]⟩ : Shape).Idx) : X i ≠ ⊤ ∧ X i ≠ ⊥ := by
  obtain ⟨t, k, rfl⟩ : ∃ (t k : Fin 512), i = ix2 t k := ⟨i 0, i 1, funext fun a => by fin_cases a <;> rfl⟩
  let c : Dev Cert.KernelIdeal.nD := if t.val < 256 then 0 else 4
  have e : X (ix2 t k) = (m (c.tc.loc Cert.KernelIdeal.main_arg0) : (⟨2, ![256, 512]⟩ : Shape).Idx → EReal) (ix2 ⟨t.val % 256, Nat.mod_lt _ (by decide)⟩ k) := by
    rw [H.x]
    congr 2
    refine Fin.ext ?_
    show t.val = 256 * ((c.val / 4) % 2) + t.val % 256
    by_cases ht : t.val < 256
    · have hc : c.val = 0 := by simp only [c, if_pos ht]; rfl
      rw [hc]; omega
    · have hc : c.val = 4 := by simp only [c, if_neg ht]; rfl
      rw [hc]; omega
  rw [e]
  exact pre_tokens _ _ _ _ (hm c).1 _ _

/-- Every router entry of the whole problem lies in the columns of the device at `y = 0` or of the one at `y = 1`. -/
theorem router_finite (i : (⟨2, ![512, 4]⟩ : Shape).Idx) : R i ≠ ⊤ ∧ R i ≠ ⊥ := by
  obtain ⟨k, e, rfl⟩ : ∃ (k : Fin 512) (e : Fin 4), i = ix2 k e := ⟨i 0, i 1, funext fun a => by fin_cases a <;> rfl⟩
  let c : Dev Cert.KernelIdeal.nD := if e.val < 2 then 0 else 4
  have h : R (ix2 k e) = (m (c.tc.loc Cert.KernelIdeal.main_arg1) : (⟨2, ![512, 2]⟩ : Shape).Idx → EReal) (ix2 k ⟨e.val % 2, Nat.mod_lt _ (by decide)⟩) := by
    rw [H.r]
    congr 2
    refine Fin.ext ?_
    show e.val = 2 * ((c.val / 4) % 2) + e.val % 2
    by_cases he : e.val < 2
    · have hc : c.val = 0 := by simp only [c, if_pos he]; rfl
      rw [hc]; omega
    · have hc : c.val = 4 := by simp only [c, if_neg he]; rfl
      rw [hc]; omega
  rw [h]
  exact pre_router _ _ _ _ (hm c).2 _ _

end

section
attribute [local instance] preKernel

/-- A device's block of the kernel's result is its block of the reference's. -/
theorem outAt_block (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (H : Cuts m (Cert.Reference.tokens V) (Cert.Reference.router V) (Cert.Reference.first V) (Cert.Reference.second V))
    (hm : Cert.Pre_KernelIdeal_finite_gating_KernelIdeal m) (c : Dev Cert.KernelIdeal.nD) :
    outAt m c = Layout.blockN ⟨2, ![256, 512]⟩ ⟨2, ![512, 512]⟩ (Layout.meshBlock [2, 2, 4] ![[1], []] c)
      (Cert.ReferenceIdeal.Value.res_main_v138 V) := by
  funext i
  obtain ⟨t, d, rfl⟩ : ∃ (t : Fin 256) (d : Fin 512), i = ix2 t d := ⟨i 0, i 1, funext fun a => by fin_cases a <;> rfl⟩
  exact (outAt_whole H c t d).trans
    ((Cert.Reference.out_apply V (tokens_finite H hm) (router_finite H hm) _ d).symm.trans
      (rows_block (Cert.ReferenceIdeal.Value.res_main_v138 V) c t d).symm)

end

end Cert.Whole

end
-- ==== Proof.lean ====
/-
# The certificate

`KernelIdeal`'s run (Proof/Run.lean) is proved once, for any float values. Each kernel's frame is that run with the
contents dropped; the reference's is its own run, and it declares no semaphore. The value claim puts that run's contents
beside the reference's (Proof/Whole.lean).
-/
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.Whole
public import Idealize.ShloMosaic.Adequacy
public import Idealize.ShloMosaic.Init

@[expose] public section

set_option maxRecDepth 16384

noncomputable section

namespace Cert.Proof

open Idealize.ShloMosaic Idealize.SL.Sem

/-- The machine's state after the kernel's run: the arguments as they were. -/
theorem args_kept {F : FTy → Type} [FloatOps F] (m : (ℓ : Loc Cert.KernelIdeal.nD Cert.KernelIdeal.τ Cert.KernelIdeal.sig) → Buf (Elt F) ℓ)
    (r : PUnit × MemSt Cert.KernelIdeal.nD Cert.KernelIdeal.τ Cert.KernelIdeal.sig (Elt F)) (h : Cert.Exchange.After m r) (c : Dev Cert.KernelIdeal.nD) :
    r.2.mem (c.tc.loc Cert.KernelIdeal.main_arg0) = m (c.tc.loc Cert.KernelIdeal.main_arg0)
      ∧ r.2.mem (c.tc.loc Cert.KernelIdeal.main_arg1) = m (c.tc.loc Cert.KernelIdeal.main_arg1)
      ∧ r.2.mem (c.tc.loc Cert.KernelIdeal.main_arg2) = m (c.tc.loc Cert.KernelIdeal.main_arg2)
      ∧ r.2.mem (c.tc.loc Cert.KernelIdeal.main_arg3) = m (c.tc.loc Cert.KernelIdeal.main_arg3) :=
  ⟨((h.1 c).1 (0 : Fin 3)).trans ((Cert.Exchange.dats m 0 c).arrAt_in (0 : Fin 3) rfl _),
    ((h.1 c).1 (1 : Fin 3)).trans ((Cert.Exchange.dats m 0 c).arrAt_in (1 : Fin 3) rfl _),
    (h.1 c).2.2.1, (h.1 c).2.2.2⟩

/-! The two kernels are printed from one text, so their bodies and tables are the same terms. -/

/-- The bodies are one term. -/
theorem body_same : @Cert.Kernel.cc0_body Bits _ Cert.Kernel.Gen.facts = @Cert.KernelIdeal.cc0_body Bits _ Cert.KernelIdeal.Gen.facts := rfl

/-- The body tables are one term. -/
theorem defs₀_same : (Cert.Kernel.defs₀ (F := Bits)) = (Cert.KernelIdeal.defs₀ (F := Bits)) := by
  unfold Cert.Kernel.defs₀ Cert.KernelIdeal.defs₀
  refine congrArg Defs.onTc (funext fun l => funext fun a => ?_)
  match l, a with
  | ⟨0, _⟩, (t, s) => rfl
  | ⟨n + 1, h⟩, _ => exact absurd h (Nat.not_lt.2 (Nat.le_add_left _ _))

/-- The label tables are one term. -/
theorem defs_same : (Cert.Kernel.defs (F := Bits)) = (Cert.KernelIdeal.defs (F := Bits)) :=
  congrArg (Pipeline.defs Cert.KernelIdeal.pcfgs) defs₀_same

/-- The kernel's frame. -/
theorem frame_kernel : Cert.quiescent_Kernel := by
  intro m ρ _
  rw [defs_same]
  exact (θ_run Cert.KernelIdeal.defs _ _).mono (fun r h => ⟨fun c => args_kept m r h c, h.2⟩) (Cert.Exchange.run_main (F := Bits) m ρ)

/-- The frame of the kernel read at the extended reals. -/
theorem frame_ideal : Cert.quiescent_KernelIdeal := fun m ρ _ =>
  (θ_run Cert.KernelIdeal.defs _ _).mono (fun r h => ⟨fun c => args_kept m r h c, h.2⟩) (Cert.Exchange.run_main (F := Ideal) m ρ)

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

attribute [local instance] Cert.Whole.preKernel Cert.Whole.preReference

/-- Under the precondition the kernel leaves on each device that device's block of the reference's result. -/
theorem algebraic : Cert.algebraic_KernelIdeal_ReferenceIdeal_pre_finite_gating_KernelIdeal := by
  intro m g m' g' hm hagree
  let V := StableHlo.launchContents m' (0 : Dev Cert.ReferenceIdeal.nD)
  have H : Cert.Exchange.Cuts m (Cert.Reference.tokens V) (Cert.Reference.router V) (Cert.Reference.first V) (Cert.Reference.second V) :=
    Cert.Whole.cuts_of m _ _ _ _ hagree
  exact ⟨Cert.ReferenceIdeal.Value.res_main_v138 V,
    (θ_run Cert.KernelIdeal.defs _ _).mono
      (fun r h c => ⟨(((h.1 c).1 (2 : Fin 3)).trans (Cert.Exchange.final_out m c)).trans (Cert.Whole.outAt_block m V H hm c), args_kept m r h c⟩)
      (Cert.Exchange.run_main (F := Ideal) m g),
    (θ_run Cert.ReferenceIdeal.defs _ _).mono (fun _ h => h 0) (Cert.ReferenceIdeal.Value.run m' g')⟩

/-- Everything claimed. The two frames under the precondition are the frames without it. -/
theorem claim : Cert.Claim := ⟨Cert.Kernel.Gen.facts, Cert.KernelIdeal.Gen.facts, Cert.ReferenceIdeal.Gen.facts,
  Cert.Whole.preKernel, Cert.Whole.preReference,
  frame_kernel, frame_ideal, fun m ρ _ => frame_ideal m ρ trivial, frame_reference, fun m ρ _ => frame_reference m ρ trivial,
  trivial, algebraic⟩

end Cert.Proof

end
